-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S64x2x4096 Cert.KernelIdeal.S64x1x4096
  ∧ IdealRules.bf16_pair.Statement Cert.KernelIdeal.S128x4096 Cert.KernelIdeal.S64x4096
  ∧ IdealRules.bf16_pair.Statement Cert.KernelIdeal.S64x2x4096 Cert.KernelIdeal.S64x1x4096
  ∧ IdealRules.bf16_pair.Statement Cert.KernelIdeal.S64x2x256 Cert.KernelIdeal.S64x1x256
  ∧ IdealRules.bf16_pair.Statement Cert.KernelIdeal.S128x256 Cert.KernelIdeal.S64x256

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_in_domain : Cert.Pre_in_domain.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S1x128x4096 : Shape := ⟨3, ![1, 128, 4096]⟩
abbrev S1x128 : Shape := ⟨2, ![1, 128]⟩
abbrev S32000x4096 : Shape := ⟨2, ![32000, 4096]⟩
abbrev S250x32 : Shape := ⟨2, ![250, 32]⟩
abbrev S1x128x7 : Shape := ⟨3, ![1, 128, 7]⟩
abbrev S_ : Shape := ⟨0, ![]⟩

class Facts : Prop where
  bcast_S_S1x128x4096 : S_.BroadcastsInDim S1x128x4096 (![] : Fin 0 → Fin S1x128x4096.rank)
  reducesTo_S1x128x4096_S_d0_1_2 : S1x128x4096.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S250x32 : S_.BroadcastsInDim S250x32 (![] : Fin 0 → Fin S250x32.rank)
  reducesTo_S250x32_S_d0_1 : S250x32.ReducesTo [0, 1] S_
  bcast_S_S1x128x7 : S_.BroadcastsInDim S1x128x7 (![] : Fin 0 → Fin S1x128x7.rank)
  reducesTo_S1x128x7_S_d0_1_2 : S1x128x7.ReducesTo [0, 1, 2] S_

variable [Facts]

def fn_part1 {F : FTy → Type} [FloatOps F] (main_arg4 : IVec S1x128x7 32) (main_v13 : IVec S_ 1) (main_v16 : IVec S250x32 1) : IVec S_ 1 :=
  let main_c_5 : IVec S_ 1 := constantI S_ 1 1#1
  let main_v17 : IVec S_ 1 := (fun x v => Host.reduce IntOp.andi x v reducesTo_S250x32_S_d0_1 h_S_) main_v16 main_c_5
  let main_v18 : IVec S_ 1 := andi main_v13 main_v17
  let main_c_6 : IVec S_ 32 := constantI S_ 32 0#32
  let main_v19 : IVec S1x128x7 32 := broadcastInDim S1x128x7 ![] bcast_S_S1x128x7 main_c_6
  let main_v20 : IVec S1x128x7 1 := cmpi .sge main_arg4 main_v19
  let main_c_7 : IVec S_ 32 := constantI S_ 32 32000#32
  let main_v21 : IVec S1x128x7 32 := broadcastInDim S1x128x7 ![] bcast_S_S1x128x7 main_c_7
  let main_v22 : IVec S1x128x7 1 := cmpi .slt main_arg4 main_v21
  let main_v23 : IVec S1x128x7 1 := andi main_v20 main_v22
  let main_c_8 : IVec S_ 1 := constantI S_ 1 1#1
  let main_v24 : IVec S_ 1 := (fun x v => Host.reduce IntOp.andi x v reducesTo_S1x128x7_S_d0_1_2 h_S_) main_v23 main_c_8
  let main_v25 : IVec S_ 1 := andi main_v18 main_v24
  main_v25

def fn {F : FTy → Type} [FloatOps F] (main_arg0 : FVec F S1x128x4096 .f32) (main_arg1 : FVec F S1x128 .f32) (main_arg2 : FVec F S32000x4096 .f32) (main_arg3 : FVec F S250x32 .f32) (main_arg4 : IVec S1x128x7 32) : IVec S_ 1 :=
  let main_v0 : FVec F S1x128x4096 .f32 := Host.absf main_arg0
  let main_cst : FVec F S_ .f32 := constant S_ .f32 0x7F800000#32
  let main_v1 : FVec F S1x128x4096 .f32 := broadcastInDim S1x128x4096 ![] bcast_S_S1x128x4096 main_cst
  let main_v2 : IVec S1x128x4096 1 := cmpf .olt main_v0 main_v1
  let main_c : IVec S_ 1 := constantI S_ 1 1#1
  let main_v3 : IVec S_ 1 := (fun x v => Host.reduce IntOp.andi x v reducesTo_S1x128x4096_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S250x32 .f32 := Host.absf main_arg3
  let main_cst_4 : FVec F S_ .f32 := constant S_ .f32 0x7F800000#32
  let main_v15 : FVec F S250x32 .f32 := broadcastInDim S250x32 ![] bcast_S_S250x32 main_cst_4
  let main_v16 : IVec S250x32 1 := cmpf .olt main_v14 main_v15
  fn_part1 (F := F) main_arg4 main_v13 main_v16
-- ==== Pre_targets_in_range.lean ====
abbrev S1x128x4096 : Shape := ⟨3, ![1, 128, 4096]⟩
abbrev S1x128 : Shape := ⟨2, ![1, 128]⟩
abbrev S32000x4096 : Shape := ⟨2, ![32000, 4096]⟩
abbrev S250x32 : Shape := ⟨2, ![250, 32]⟩
abbrev S1x128x7 : Shape := ⟨3, ![1, 128, 7]⟩
abbrev S_ : Shape := ⟨0, ![]⟩

class Facts : Prop where
  bcast_S_S1x128x7 : S_.BroadcastsInDim S1x128x7 (![] : Fin 0 → Fin S1x128x7.rank)
  reducesTo_S1x128x7_S_d0_1_2 : S1x128x7.ReducesTo [0, 1, 2] S_
  h_S_ : 0 < S_.numel

variable [Facts]

def fn {F : FTy → Type} [FloatOps F] (main_arg0 : FVec F S1x128x4096 .f32) (main_arg1 : FVec F S1x128 .f32) (main_arg2 : FVec F S32000x4096 .f32) (main_arg3 : FVec F S250x32 .f32) (main_arg4 : IVec S1x128x7 32) : IVec S_ 1 :=
  let main_c : IVec S_ 32 := constantI S_ 32 0#32
  let main_v0 : IVec S1x128x7 32 := broadcastInDim S1x128x7 ![] bcast_S_S1x128x7 main_c
  let main_v1 : IVec S1x128x7 1 := cmpi .sge main_arg4 main_v0
  let main_c_0 : IVec S_ 32 := constantI S_ 32 32000#32
  let main_v2 : IVec S1x128x7 32 := broadcastInDim S1x128x7 ![] bcast_S_S1x128x7 main_c_0
  let main_v3 : IVec S1x128x7 1 := cmpi .slt main_arg4 main_v2
  let main_v4 : IVec S1x128x7 1 := andi main_v1 main_v3
  let main_c_1 : IVec S_ 1 := constantI S_ 1 1#1
  let main_v5 : IVec S_ 1 := (fun x v => Host.reduce IntOp.andi x v reducesTo_S1x128x7_S_d0_1_2 h_S_) main_v4 main_c_1
  main_v5
-- ==== Kernel.lean ====
abbrev S1x128x4096 : Shape := ⟨3, ![1, 128, 4096]⟩
abbrev S1x128 : Shape := ⟨2, ![1, 128]⟩
abbrev S32000x4096 : Shape := ⟨2, ![32000, 4096]⟩
abbrev S250x32 : Shape := ⟨2, ![250, 32]⟩
abbrev S1x128x7 : Shape := ⟨3, ![1, 128, 7]⟩
abbrev S128x7 : Shape := ⟨2, ![128, 7]⟩
abbrev S128x4096 : Shape := ⟨2, ![128, 4096]⟩
abbrev S128x1 : Shape := ⟨2, ![128, 1]⟩
abbrev S1280x4096 : Shape := ⟨2, ![1280, 4096]⟩
abbrev S64x4096 : Shape := ⟨2, ![64, 4096]⟩
abbrev S32000x128 : Shape := ⟨2, ![32000, 128]⟩
abbrev S896x128 : Shape := ⟨2, ![896, 128]⟩
abbrev S128x256 : Shape := ⟨2, ![128, 256]⟩
abbrev S256x128 : Shape := ⟨2, ![256, 128]⟩
abbrev S1x1 : Shape := ⟨2, ![1, 1]⟩
abbrev S128x128 : Shape := ⟨2, ![128, 128]⟩
abbrev S256x256 : Shape := ⟨2, ![256, 256]⟩
abbrev S64x256 : Shape := ⟨2, ![64, 256]⟩
abbrev S128 : Shape := ⟨1, ![128]⟩

abbrev nBuf : Space → Nat
  | .hbm => 18
  | .vmem => 15
  | .smem => 2
  | _ => 0

abbrev bufTy : (tb : Table) → Fin (tcTables nBuf tb) → BufTy
  | .hbm, ⟨0, _⟩ => ⟨S1x128x4096, .f32⟩
  | .hbm, ⟨1, _⟩ => ⟨S1x128, .f32⟩
  | .hbm, ⟨2, _⟩ => ⟨S32000x4096, .f32⟩
  | .hbm, ⟨3, _⟩ => ⟨S250x32, .f32⟩
  | .hbm, ⟨4, _⟩ => ⟨S1x128x7, .i32⟩
  | .hbm, ⟨5, _⟩ => ⟨S1x128x4096, .fp8e4m3⟩
  | .hbm, ⟨6, _⟩ => ⟨S32000x4096, .fp8e4m3⟩
  | .hbm, ⟨7, _⟩ => ⟨S250x32, .bf16⟩
  | .hbm, ⟨8, _⟩ => ⟨S250x32, .f32⟩
  | .hbm, ⟨9, _⟩ => ⟨S128x7, .i32⟩
  | .hbm, ⟨10, _⟩ => ⟨S128x4096, .fp8e4m3⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x7, .f32⟩
  | .hbm, ⟨15, _⟩ => ⟨S1x128, .f32⟩
  | .hbm, ⟨16, _⟩ => ⟨S1x128, .f32⟩
  | .hbm, ⟨17, _⟩ => ⟨S1x128x7, .f32⟩
  | .local _ .vmem, ⟨0, _⟩ => ⟨S128x4096, .fp8e4m3⟩
  | .local _ .vmem, ⟨1, _⟩ => ⟨S128x1, .f32⟩
  | .local _ .vmem, ⟨2, _⟩ => ⟨S128x7, .i32⟩
  | .local _ .vmem, ⟨3, _⟩ => ⟨S1280x4096, .fp8e4m3⟩
  | .local _ .vmem, ⟨4, _⟩ => ⟨S1280x4096, .fp8e4m3⟩
  | .local _ .vmem, ⟨5, _⟩ => ⟨S128x1, .f32⟩
  | .local _ .vmem, ⟨6, _⟩ => ⟨S128x1, .f32⟩
  | .local _ .vmem, ⟨7, _⟩ => ⟨S128x7, .f32⟩
  | .local _ .vmem, ⟨8, _⟩ => ⟨S64x4096, .i32⟩
  | .local _ .vmem, ⟨9, _⟩ => ⟨S32000x128, .f32⟩
  | .local _ .vmem, ⟨10, _⟩ => ⟨S896x128, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .smem, ⟨0, _⟩ => ⟨S250x32, .f32⟩
  | .local _ .smem, ⟨1, _⟩ => ⟨S128x7, .i32⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [BitOps F]

abbrev grid0 : Pipeline.Grid := ⟨1, ![25], ![false]⟩

def k0_off1 (i : grid0.Coords) (c0_i32_2 : BitVec 32) (c0_i32_5 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v12 : BitVec 32 := Scalar.addi v6 c0_i32_5
  let v13 : Index := Scalar.indexCast v12
  let c0_6 : Index := 0#32
  ![v13.toNat, 0]
def k0_off2 (i : grid0.Coords) (c0_i32_2 : BitVec 32) (c0_i32_7 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v19 : BitVec 32 := Scalar.addi v6 c0_i32_7
  let v20 : Index := Scalar.indexCast v19
  let c1 : Index := 1#32
  ![v20.toNat, 1]
def k0_off3 (i : grid0.Coords) (c0_i32_2 : BitVec 32) (c0_i32_16 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v55 : BitVec 32 := Scalar.addi v6 c0_i32_16
  let v56 : Index := Scalar.indexCast v55
  let c2 : Index := 2#32
  ![v56.toNat, 2]
def k0_off4 (i : grid0.Coords) (c0_i32_2 : BitVec 32) (c0_i32_17 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v62 : BitVec 32 := Scalar.addi v6 c0_i32_17
  let v63 : Index := Scalar.indexCast v62
  let c3 : Index := 3#32
  ![v63.toNat, 3]
def k0_off5 (i : grid0.Coords) (c0_i32_2 : BitVec 32) (c0_i32_28 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v98 : BitVec 32 := Scalar.addi v6 c0_i32_28
  let v99 : Index := Scalar.indexCast v98
  let c4 : Index := 4#32
  ![v99.toNat, 4]
def k0_off6 (i : grid0.Coords) (c0_i32_2 : BitVec 32) (c0_i32_29 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v105 : BitVec 32 := Scalar.addi v6 c0_i32_29
  let v106 : Index := Scalar.indexCast v105
  let c5 : Index := 5#32
  ![v106.toNat, 5]
def k0_off7 (i : grid0.Coords) (c0_i32_2 : BitVec 32) (c0_i32_40 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v141 : BitVec 32 := Scalar.addi v6 c0_i32_40
  let v142 : Index := Scalar.indexCast v141
  let c6 : Index := 6#32
  ![v142.toNat, 6]
def k0_off8 (i : grid0.Coords) (c0_i32_2 : BitVec 32) (c0_i32_41 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v148 : BitVec 32 := Scalar.addi v6 c0_i32_41
  let v149 : Index := Scalar.indexCast v148
  let c7 : Index := 7#32
  ![v149.toNat, 7]
def k0_off9 (i : grid0.Coords) (c0_i32_2 : BitVec 32) (c0_i32_52 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v184 : BitVec 32 := Scalar.addi v6 c0_i32_52
  let v185 : Index := Scalar.indexCast v184
  let c8 : Index := 8#32
  ![v185.toNat, 8]
def k0_off10 (i : grid0.Coords) (c0_i32_2 : BitVec 32) (c0_i32_53 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v191 : BitVec 32 := Scalar.addi v6 c0_i32_53
  let v192 : Index := Scalar.indexCast v191
  let c9 : Index := 9#32
  ![v192.toNat, 9]
def k0_off11 (i : grid0.Coords) (c0_i32_2 : BitVec 32) (c0_i32_64 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v227 : BitVec 32 := Scalar.addi v6 c0_i32_64
  let v228 : Index := Scalar.indexCast v227
  let c10 : Index := 10#32
  ![v228.toNat, 10]
def k0_off12 (i : grid0.Coords) (c0_i32_2 : BitVec 32) (c0_i32_65 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v234 : BitVec 32 := Scalar.addi v6 c0_i32_65
  let v235 : Index := Scalar.indexCast v234
  let c11 : Index := 11#32
  ![v235.toNat, 11]
def k0_off13 (i : grid0.Coords) (c0_i32_2 : BitVec 32) (c0_i32_76 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v270 : BitVec 32 := Scalar.addi v6 c0_i32_76
  let v271 : Index := Scalar.indexCast v270
  let c12 : Index := 12#32
  ![v271.toNat, 12]
def k0_off14 (i : grid0.Coords) (c0_i32_2 : BitVec 32) (c0_i32_77 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v277 : BitVec 32 := Scalar.addi v6 c0_i32_77
  let v278 : Index := Scalar.indexCast v277
  let c13 : Index := 13#32
  ![v278.toNat, 13]
def k0_off15 (i : grid0.Coords) (c0_i32_2 : BitVec 32) (c0_i32_88 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v313 : BitVec 32 := Scalar.addi v6 c0_i32_88
  let v314 : Index := Scalar.indexCast v313
  let c14 : Index := 14#32
  ![v314.toNat, 14]
def k0_off16 (i : grid0.Coords) (c0_i32_2 : BitVec 32) (c0_i32_89 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v320 : BitVec 32 := Scalar.addi v6 c0_i32_89
  let v321 : Index := Scalar.indexCast v320
  let c15 : Index := 15#32
  ![v321.toNat, 15]
def k0_off17 (i : grid0.Coords) (c0_i32_2 : BitVec 32) (c0_i32_100 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v356 : BitVec 32 := Scalar.addi v6 c0_i32_100
  let v357 : Index := Scalar.indexCast v356
  let c16 : Index := 16#32
  ![v357.toNat, 16]
def k0_off18 (i : grid0.Coords) (c0_i32_2 : BitVec 32) (c0_i32_101 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v363 : BitVec 32 := Scalar.addi v6 c0_i32_101
  let v364 : Index := Scalar.indexCast v363
  let c17 : Index := 17#32
  ![v364.toNat, 17]
def k0_off19 (i : grid0.Coords) (c0_i32_2 : BitVec 32) (c0_i32_112 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v399 : BitVec 32 := Scalar.addi v6 c0_i32_112
  let v400 : Index := Scalar.indexCast v399
  let c18 : Index := 18#32
  ![v400.toNat, 18]
def k0_off20 (i : grid0.Coords) (c0_i32_2 : BitVec 32) (c0_i32_113 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v406 : BitVec 32 := Scalar.addi v6 c0_i32_113
  let v407 : Index := Scalar.indexCast v406
  let c19 : Index := 19#32
  ![v407.toNat, 19]
def k0_off21 (i : grid0.Coords) (c0_i32_2 : BitVec 32) (c0_i32_124 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v442 : BitVec 32 := Scalar.addi v6 c0_i32_124
  let v443 : Index := Scalar.indexCast v442
  let c20 : Index := 20#32
  ![v443.toNat, 20]
def k0_off22 (i : grid0.Coords) (c0_i32_2 : BitVec 32) (c0_i32_125 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v449 : BitVec 32 := Scalar.addi v6 c0_i32_125
  let v450 : Index := Scalar.indexCast v449
  let c21 : Index := 21#32
  ![v450.toNat, 21]
def k0_off23 (i : grid0.Coords) (c0_i32_2 : BitVec 32) (c0_i32_136 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v485 : BitVec 32 := Scalar.addi v6 c0_i32_136
  let v486 : Index := Scalar.indexCast v485
  let c22 : Index := 22#32
  ![v486.toNat, 22]
def k0_off24 (i : grid0.Coords) (c0_i32_2 : BitVec 32) (c0_i32_137 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v492 : BitVec 32 := Scalar.addi v6 c0_i32_137
  let v493 : Index := Scalar.indexCast v492
  let c23 : Index := 23#32
  ![v493.toNat, 23]
def k0_off25 (i : grid0.Coords) (c0_i32_2 : BitVec 32) (c0_i32_148 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v528 : BitVec 32 := Scalar.addi v6 c0_i32_148
  let v529 : Index := Scalar.indexCast v528
  let c24 : Index := 24#32
  ![v529.toNat, 24]
def k0_off26 (i : grid0.Coords) (c0_i32_2 : BitVec 32) (c0_i32_149 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v535 : BitVec 32 := Scalar.addi v6 c0_i32_149
  let v536 : Index := Scalar.indexCast v535
  let c25 : Index := 25#32
  ![v536.toNat, 25]
def k0_off27 (i : grid0.Coords) (c0_i32_2 : BitVec 32) (c0_i32_160 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v571 : BitVec 32 := Scalar.addi v6 c0_i32_160
  let v572 : Index := Scalar.indexCast v571
  let c26 : Index := 26#32
  ![v572.toNat, 26]
def k0_off28 (i : grid0.Coords) (c0_i32_2 : BitVec 32) (c0_i32_161 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v578 : BitVec 32 := Scalar.addi v6 c0_i32_161
  let v579 : Index := Scalar.indexCast v578
  let c27 : Index := 27#32
  ![v579.toNat, 27]
def k0_off29 (i : grid0.Coords) (c0_i32_2 : BitVec 32) (c0_i32_172 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v614 : BitVec 32 := Scalar.addi v6 c0_i32_172
  let v615 : Index := Scalar.indexCast v614
  let c28 : Index := 28#32
  ![v615.toNat, 28]
def k0_off30 (i : grid0.Coords) (c0_i32_2 : BitVec 32) (c0_i32_173 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v621 : BitVec 32 := Scalar.addi v6 c0_i32_173
  let v622 : Index := Scalar.indexCast v621
  let c29 : Index := 29#32
  ![v622.toNat, 29]
def k0_off31 (i : grid0.Coords) (c0_i32_2 : BitVec 32) (c0_i32_184 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v657 : BitVec 32 := Scalar.addi v6 c0_i32_184
  let v658 : Index := Scalar.indexCast v657
  let c30 : Index := 30#32
  ![v658.toNat, 30]
def k0_off32 (i : grid0.Coords) (c0_i32_2 : BitVec 32) (c0_i32_185 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v664 : BitVec 32 := Scalar.addi v6 c0_i32_185
  let v665 : Index := Scalar.indexCast v664
  let c31 : Index := 31#32
  ![v665.toNat, 31]
def k0_mult1 (i : grid0.Coords) : BitVec 32 :=
  let arg0 : BitVec 32 := BitVec.ofNat 32 (i 0).val
  let c10_i32 : BitVec 32 := 10#32
  let v5 : BitVec 32 := Scalar.muli arg0 c10_i32
  let c0_i32_2 : BitVec 32 := 0#32
  let v6 : BitVec 32 := Scalar.addi v5 c0_i32_2
  let c0_i32_195 : BitVec 32 := 0#32
  let v698 : BitVec 32 := Scalar.addi v6 c0_i32_195
  let c128_i32 : BitVec 32 := 128#32
  let v699 : BitVec 32 := Scalar.muli v698 c128_i32
  v699
def k0_off33 (i : grid0.Coords) (c0_i32_2 : BitVec 32) (c0_i32_195 : BitVec 32) : Fin 2 → Nat :=
  let arg0 : BitVec 32 := BitVec.ofNat 32 (i 0).val
  let c10_i32 : BitVec 32 := 10#32
  let v5 : BitVec 32 := Scalar.muli arg0 c10_i32
  let v6 : BitVec 32 := Scalar.addi v5 c0_i32_2
  let v698 : BitVec 32 := Scalar.addi v6 c0_i32_195
  let c128_i32 : BitVec 32 := 128#32
  let v699 : BitVec 32 := Scalar.muli v698 c128_i32
  let v700 : BitVec 32 := v699
  let v702 : Index := Scalar.indexCast v700
  let c0_196 : Index := 0#32
  ![v702.toNat, 0]
def k0_mult2 (i : grid0.Coords) : BitVec 32 :=
  let arg0 : BitVec 32 := BitVec.ofNat 32 (i 0).val
  let c10_i32 : BitVec 32 := 10#32
  let v5 : BitVec 32 := Scalar.muli arg0 c10_i32
  let c0_i32_2 : BitVec 32 := 0#32
  let v6 : BitVec 32 := Scalar.addi v5 c0_i32_2
  let c1_i32_197 : BitVec 32 := 1#32
  let v706 : BitVec 32 := Scalar.addi v6 c1_i32_197
  let c128_i32_198 : BitVec 32 := 128#32
  let v707 : BitVec 32 := Scalar.muli v706 c128_i32_198
  v707
def k0_mult3 (i : grid0.Coords) : BitVec 32 :=
  let arg0 : BitVec 32 := BitVec.ofNat 32 (i 0).val
  let c10_i32_219 : BitVec 32 := 10#32
  let v755 : BitVec 32 := Scalar.muli arg0 c10_i32_219
  let c2_i32 : BitVec 32 := 2#32
  let v756 : BitVec 32 := Scalar.addi v755 c2_i32
  let c0_i32_460 : BitVec 32 := 0#32
  let v1448 : BitVec 32 := Scalar.addi v756 c0_i32_460
  let c128_i32_461 : BitVec 32 := 128#32
  let v1449 : BitVec 32 := Scalar.muli v1448 c128_i32_461
  v1449
def k0_mult4 (i : grid0.Coords) : BitVec 32 :=
  let arg0 : BitVec 32 := BitVec.ofNat 32 (i 0).val
  let c10_i32_219 : BitVec 32 := 10#32
  let v755 : BitVec 32 := Scalar.muli arg0 c10_i32_219
  let c2_i32 : BitVec 32 := 2#32
  let v756 : BitVec 32 := Scalar.addi v755 c2_i32
  let c1_i32_463 : BitVec 32 := 1#32
  let v1456 : BitVec 32 := Scalar.addi v756 c1_i32_463
  let c128_i32_464 : BitVec 32 := 128#32
  let v1457 : BitVec 32 := Scalar.muli v1456 c128_i32_464
  v1457
def k0_mult5 (i : grid0.Coords) : BitVec 32 :=
  let arg0 : BitVec 32 := BitVec.ofNat 32 (i 0).val
  let c10_i32_485 : BitVec 32 := 10#32
  let v1505 : BitVec 32 := Scalar.muli arg0 c10_i32_485
  let c4_i32 : BitVec 32 := 4#32
  let v1506 : BitVec 32 := Scalar.addi v1505 c4_i32
  let c0_i32_726 : BitVec 32 := 0#32
  let v2198 : BitVec 32 := Scalar.addi v1506 c0_i32_726
  let c128_i32_727 : BitVec 32 := 128#32
  let v2199 : BitVec 32 := Scalar.muli v2198 c128_i32_727
  v2199
def k0_mult6 (i : grid0.Coords) : BitVec 32 :=
  let arg0 : BitVec 32 := BitVec.ofNat 32 (i 0).val
  let c10_i32_485 : BitVec 32 := 10#32
  let v1505 : BitVec 32 := Scalar.muli arg0 c10_i32_485
  let c4_i32 : BitVec 32 := 4#32
  let v1506 : BitVec 32 := Scalar.addi v1505 c4_i32
  let c1_i32_729 : BitVec 32 := 1#32
  let v2206 : BitVec 32 := Scalar.addi v1506 c1_i32_729
  let c128_i32_730 : BitVec 32 := 128#32
  let v2207 : BitVec 32 := Scalar.muli v2206 c128_i32_730
  v2207
def k0_mult7 (i : grid0.Coords) : BitVec 32 :=
  let arg0 : BitVec 32 := BitVec.ofNat 32 (i 0).val
  let c10_i32_751 : BitVec 32 := 10#32
  let v2255 : BitVec 32 := Scalar.muli arg0 c10_i32_751
  let c6_i32 : BitVec 32 := 6#32
  let v2256 : BitVec 32 := Scalar.addi v2255 c6_i32
  let c0_i32_992 : BitVec 32 := 0#32
  let v2948 : BitVec 32 := Scalar.addi v2256 c0_i32_992
  let c128_i32_993 : BitVec 32 := 128#32
  let v2949 : BitVec 32 := Scalar.muli v2948 c128_i32_993
  v2949
def k0_mult8 (i : grid0.Coords) : BitVec 32 :=
  let arg0 : BitVec 32 := BitVec.ofNat 32 (i 0).val
  let c10_i32_751 : BitVec 32 := 10#32
  let v2255 : BitVec 32 := Scalar.muli arg0 c10_i32_751
  let c6_i32 : BitVec 32 := 6#32
  let v2256 : BitVec 32 := Scalar.addi v2255 c6_i32
  let c1_i32_995 : BitVec 32 := 1#32
  let v2956 : BitVec 32 := Scalar.addi v2256 c1_i32_995
  let c128_i32_996 : BitVec 32 := 128#32
  let v2957 : BitVec 32 := Scalar.muli v2956 c128_i32_996
  v2957
def k0_mult9 (i : grid0.Coords) : BitVec 32 :=
  let arg0 : BitVec 32 := BitVec.ofNat 32 (i 0).val
  let c10_i32_1017 : BitVec 32 := 10#32
  let v3005 : BitVec 32 := Scalar.muli arg0 c10_i32_1017
  let c8_i32 : BitVec 32 := 8#32
  let v3006 : BitVec 32 := Scalar.addi v3005 c8_i32
  let c0_i32_1258 : BitVec 32 := 0#32
  let v3698 : BitVec 32 := Scalar.addi v3006 c0_i32_1258
  let c128_i32_1259 : BitVec 32 := 128#32
  let v3699 : BitVec 32 := Scalar.muli v3698 c128_i32_1259
  v3699
def k0_mult10 (i : grid0.Coords) : BitVec 32 :=
  let arg0 : BitVec 32 := BitVec.ofNat 32 (i 0).val
  let c10_i32_1017 : BitVec 32 := 10#32
  let v3005 : BitVec 32 := Scalar.muli arg0 c10_i32_1017
  let c8_i32 : BitVec 32 := 8#32
  let v3006 : BitVec 32 := Scalar.addi v3005 c8_i32
  let c1_i32_1261 : BitVec 32 := 1#32
  let v3706 : BitVec 32 := Scalar.addi v3006 c1_i32_1261
  let c128_i32_1262 : BitVec 32 := 128#32
  let v3707 : BitVec 32 := Scalar.muli v3706 c128_i32_1262
  v3707
def k0_cond2 (i : grid0.Coords) : BitVec 1 :=
  let arg0 : BitVec 32 := BitVec.ofNat 32 (i 0).val
  let c24_i32 : BitVec 32 := 24#32
  let v3755 : BitVec 1 := Scalar.cmpi .eq arg0 c24_i32
  let v3756 : BitVec 32 := Scalar.extui v3755
  let c0_i32_1283 : BitVec 32 := 0#32
  let v3757 : BitVec 1 := Scalar.cmpi .ne v3756 c0_i32_1283
  v3757

@[reducible] def k0_t1_loop : Scf.Loop 32 :=
  let c0_i32_1302 : BitVec 32 := 0#32
  let c128_i32_1303 : BitVec 32 := 128#32
  let v3795 : BitVec 32 := Scalar.addi c0_i32_1302 c128_i32_1303
  let c1_i32_1304 : BitVec 32 := 1#32
  ⟨c0_i32_1302, v3795, c1_i32_1304⟩
def k0_off34 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3888 : Index := Scalar.indexCast arg17
  let c0_1368 : Index := 0#32
  ![v3888.toNat, 0]
def k0_off35 (k0_t1 : Fin k0_t1_loop.trips) (v3889 : BitVec 32) : Fin 2 → Nat :=
  let c7_i32 : BitVec 32 := 7#32
  let v3890 : BitVec 32 := Scalar.shrui v3889 c7_i32
  let c128_i32_1369 : BitVec 32 := 128#32
  let v3891 : BitVec 32 := Scalar.muli v3890 c128_i32_1369
  let c0_i32_1302 : BitVec 32 := 0#32
  let c1_i32_1304 : BitVec 32 := 1#32
  let arg17 : BitVec 32 := Scf.iv c0_i32_1302 c1_i32_1304 k0_t1
  let v3892 : BitVec 32 := Scalar.addi v3891 arg17
  let v3893 : Index := Scalar.indexCast v3892
  let c0_1370 : Index := 0#32
  ![v3893.toNat, 0]

def k0_chk1 (i : grid0.Coords) (k0_t1 : Fin k0_t1_loop.trips) (v3889 : BitVec 32) : Prop :=
  (∀ (k0_h2 : k0_cond2 i = 1#1), ∀ a, (k0_off35 k0_t1 v3889) a + S1x128.size a ≤ S32000x128.size a)
theorem k0_off35_inb : ∀ (i : grid0.Coords) (k0_t1 : Fin k0_t1_loop.trips) (v3889 : BitVec 32) (k0_hw1 : k0_chk1 i k0_t1 v3889), ∀ (k0_h2 : k0_cond2 i = 1#1), ∀ a, (k0_off35 k0_t1 v3889) a + S1x128.size a ≤ S32000x128.size a := fun i k0_t1 v3889 k0_hw1 k0_h2 => k0_hw1 k0_h2

def k0_off36 (k0_t1 : Fin k0_t1_loop.trips) : Fin 2 → Nat :=
  let c0_i32_1371 : BitVec 32 := 0#32
  let c0_i32_1302 : BitVec 32 := 0#32
  let c1_i32_1304 : BitVec 32 := 1#32
  let arg17 : BitVec 32 := Scf.iv c0_i32_1302 c1_i32_1304 k0_t1
  let v3895 : BitVec 32 := Scalar.addi c0_i32_1371 arg17
  let v3896 : Index := Scalar.indexCast v3895
  let c0_1372 : Index := 0#32
  ![v3896.toNat, 0]
def k0_off37 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3900 : Index := Scalar.indexCast arg17
  let c1_1373 : Index := 1#32
  ![v3900.toNat, 1]
def k0_off38 (k0_t1 : Fin k0_t1_loop.trips) (v3901 : BitVec 32) : Fin 2 → Nat :=
  let c7_i32_1374 : BitVec 32 := 7#32
  let v3902 : BitVec 32 := Scalar.shrui v3901 c7_i32_1374
  let c128_i32_1375 : BitVec 32 := 128#32
  let v3903 : BitVec 32 := Scalar.muli v3902 c128_i32_1375
  let c0_i32_1302 : BitVec 32 := 0#32
  let c1_i32_1304 : BitVec 32 := 1#32
  let arg17 : BitVec 32 := Scf.iv c0_i32_1302 c1_i32_1304 k0_t1
  let v3904 : BitVec 32 := Scalar.addi v3903 arg17
  let v3905 : Index := Scalar.indexCast v3904
  let c0_1376 : Index := 0#32
  ![v3905.toNat, 0]

def k0_chk2 (i : grid0.Coords) (k0_t1 : Fin k0_t1_loop.trips) (v3901 : BitVec 32) : Prop :=
  (∀ (k0_h2 : k0_cond2 i = 1#1), ∀ a, (k0_off38 k0_t1 v3901) a + S1x128.size a ≤ S32000x128.size a)
theorem k0_off38_inb : ∀ (i : grid0.Coords) (k0_t1 : Fin k0_t1_loop.trips) (v3901 : BitVec 32) (k0_hw2 : k0_chk2 i k0_t1 v3901), ∀ (k0_h2 : k0_cond2 i = 1#1), ∀ a, (k0_off38 k0_t1 v3901) a + S1x128.size a ≤ S32000x128.size a := fun i k0_t1 v3901 k0_hw2 k0_h2 => k0_hw2 k0_h2

def k0_off39 (k0_t1 : Fin k0_t1_loop.trips) : Fin 2 → Nat :=
  let c128_i32_1377 : BitVec 32 := 128#32
  let c0_i32_1302 : BitVec 32 := 0#32
  let c1_i32_1304 : BitVec 32 := 1#32
  let arg17 : BitVec 32 := Scf.iv c0_i32_1302 c1_i32_1304 k0_t1
  let v3907 : BitVec 32 := Scalar.addi c128_i32_1377 arg17
  let v3908 : Index := Scalar.indexCast v3907
  let c0_1378 : Index := 0#32
  ![v3908.toNat, 0]
def k0_off40 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3912 : Index := Scalar.indexCast arg17
  let c2_1379 : Index := 2#32
  ![v3912.toNat, 2]
def k0_off41 (k0_t1 : Fin k0_t1_loop.trips) (v3913 : BitVec 32) : Fin 2 → Nat :=
  let c7_i32_1380 : BitVec 32 := 7#32
  let v3914 : BitVec 32 := Scalar.shrui v3913 c7_i32_1380
  let c128_i32_1381 : BitVec 32 := 128#32
  let v3915 : BitVec 32 := Scalar.muli v3914 c128_i32_1381
  let c0_i32_1302 : BitVec 32 := 0#32
  let c1_i32_1304 : BitVec 32 := 1#32
  let arg17 : BitVec 32 := Scf.iv c0_i32_1302 c1_i32_1304 k0_t1
  let v3916 : BitVec 32 := Scalar.addi v3915 arg17
  let v3917 : Index := Scalar.indexCast v3916
  let c0_1382 : Index := 0#32
  ![v3917.toNat, 0]

def k0_chk3 (i : grid0.Coords) (k0_t1 : Fin k0_t1_loop.trips) (v3913 : BitVec 32) : Prop :=
  (∀ (k0_h2 : k0_cond2 i = 1#1), ∀ a, (k0_off41 k0_t1 v3913) a + S1x128.size a ≤ S32000x128.size a)
theorem k0_off41_inb : ∀ (i : grid0.Coords) (k0_t1 : Fin k0_t1_loop.trips) (v3913 : BitVec 32) (k0_hw3 : k0_chk3 i k0_t1 v3913), ∀ (k0_h2 : k0_cond2 i = 1#1), ∀ a, (k0_off41 k0_t1 v3913) a + S1x128.size a ≤ S32000x128.size a := fun i k0_t1 v3913 k0_hw3 k0_h2 => k0_hw3 k0_h2

def k0_off42 (k0_t1 : Fin k0_t1_loop.trips) : Fin 2 → Nat :=
  let c256_i32 : BitVec 32 := 256#32
  let c0_i32_1302 : BitVec 32 := 0#32
  let c1_i32_1304 : BitVec 32 := 1#32
  let arg17 : BitVec 32 := Scf.iv c0_i32_1302 c1_i32_1304 k0_t1
  let v3919 : BitVec 32 := Scalar.addi c256_i32 arg17
  let v3920 : Index := Scalar.indexCast v3919
  let c0_1383 : Index := 0#32
  ![v3920.toNat, 0]
def k0_off43 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3924 : Index := Scalar.indexCast arg17
  let c3_1384 : Index := 3#32
  ![v3924.toNat, 3]
def k0_off44 (k0_t1 : Fin k0_t1_loop.trips) (v3925 : BitVec 32) : Fin 2 → Nat :=
  let c7_i32_1385 : BitVec 32 := 7#32
  let v3926 : BitVec 32 := Scalar.shrui v3925 c7_i32_1385
  let c128_i32_1386 : BitVec 32 := 128#32
  let v3927 : BitVec 32 := Scalar.muli v3926 c128_i32_1386
  let c0_i32_1302 : BitVec 32 := 0#32
  let c1_i32_1304 : BitVec 32 := 1#32
  let arg17 : BitVec 32 := Scf.iv c0_i32_1302 c1_i32_1304 k0_t1
  let v3928 : BitVec 32 := Scalar.addi v3927 arg17
  let v3929 : Index := Scalar.indexCast v3928
  let c0_1387 : Index := 0#32
  ![v3929.toNat, 0]

def k0_chk4 (i : grid0.Coords) (k0_t1 : Fin k0_t1_loop.trips) (v3925 : BitVec 32) : Prop :=
  (∀ (k0_h2 : k0_cond2 i = 1#1), ∀ a, (k0_off44 k0_t1 v3925) a + S1x128.size a ≤ S32000x128.size a)
theorem k0_off44_inb : ∀ (i : grid0.Coords) (k0_t1 : Fin k0_t1_loop.trips) (v3925 : BitVec 32) (k0_hw4 : k0_chk4 i k0_t1 v3925), ∀ (k0_h2 : k0_cond2 i = 1#1), ∀ a, (k0_off44 k0_t1 v3925) a + S1x128.size a ≤ S32000x128.size a := fun i k0_t1 v3925 k0_hw4 k0_h2 => k0_hw4 k0_h2

def k0_off45 (k0_t1 : Fin k0_t1_loop.trips) : Fin 2 → Nat :=
  let c384_i32 : BitVec 32 := 384#32
  let c0_i32_1302 : BitVec 32 := 0#32
  let c1_i32_1304 : BitVec 32 := 1#32
  let arg17 : BitVec 32 := Scf.iv c0_i32_1302 c1_i32_1304 k0_t1
  let v3931 : BitVec 32 := Scalar.addi c384_i32 arg17
  let v3932 : Index := Scalar.indexCast v3931
  let c0_1388 : Index := 0#32
  ![v3932.toNat, 0]
def k0_off46 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3936 : Index := Scalar.indexCast arg17
  let c4_1389 : Index := 4#32
  ![v3936.toNat, 4]
def k0_off47 (k0_t1 : Fin k0_t1_loop.trips) (v3937 : BitVec 32) : Fin 2 → Nat :=
  let c7_i32_1390 : BitVec 32 := 7#32
  let v3938 : BitVec 32 := Scalar.shrui v3937 c7_i32_1390
  let c128_i32_1391 : BitVec 32 := 128#32
  let v3939 : BitVec 32 := Scalar.muli v3938 c128_i32_1391
  let c0_i32_1302 : BitVec 32 := 0#32
  let c1_i32_1304 : BitVec 32 := 1#32
  let arg17 : BitVec 32 := Scf.iv c0_i32_1302 c1_i32_1304 k0_t1
  let v3940 : BitVec 32 := Scalar.addi v3939 arg17
  let v3941 : Index := Scalar.indexCast v3940
  let c0_1392 : Index := 0#32
  ![v3941.toNat, 0]

def k0_chk5 (i : grid0.Coords) (k0_t1 : Fin k0_t1_loop.trips) (v3937 : BitVec 32) : Prop :=
  (∀ (k0_h2 : k0_cond2 i = 1#1), ∀ a, (k0_off47 k0_t1 v3937) a + S1x128.size a ≤ S32000x128.size a)
theorem k0_off47_inb : ∀ (i : grid0.Coords) (k0_t1 : Fin k0_t1_loop.trips) (v3937 : BitVec 32) (k0_hw5 : k0_chk5 i k0_t1 v3937), ∀ (k0_h2 : k0_cond2 i = 1#1), ∀ a, (k0_off47 k0_t1 v3937) a + S1x128.size a ≤ S32000x128.size a := fun i k0_t1 v3937 k0_hw5 k0_h2 => k0_hw5 k0_h2

def k0_off48 (k0_t1 : Fin k0_t1_loop.trips) : Fin 2 → Nat :=
  let c512_i32 : BitVec 32 := 512#32
  let c0_i32_1302 : BitVec 32 := 0#32
  let c1_i32_1304 : BitVec 32 := 1#32
  let arg17 : BitVec 32 := Scf.iv c0_i32_1302 c1_i32_1304 k0_t1
  let v3943 : BitVec 32 := Scalar.addi c512_i32 arg17
  let v3944 : Index := Scalar.indexCast v3943
  let c0_1393 : Index := 0#32
  ![v3944.toNat, 0]
def k0_off49 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3948 : Index := Scalar.indexCast arg17
  let c5_1394 : Index := 5#32
  ![v3948.toNat, 5]
def k0_off50 (k0_t1 : Fin k0_t1_loop.trips) (v3949 : BitVec 32) : Fin 2 → Nat :=
  let c7_i32_1395 : BitVec 32 := 7#32
  let v3950 : BitVec 32 := Scalar.shrui v3949 c7_i32_1395
  let c128_i32_1396 : BitVec 32 := 128#32
  let v3951 : BitVec 32 := Scalar.muli v3950 c128_i32_1396
  let c0_i32_1302 : BitVec 32 := 0#32
  let c1_i32_1304 : BitVec 32 := 1#32
  let arg17 : BitVec 32 := Scf.iv c0_i32_1302 c1_i32_1304 k0_t1
  let v3952 : BitVec 32 := Scalar.addi v3951 arg17
  let v3953 : Index := Scalar.indexCast v3952
  let c0_1397 : Index := 0#32
  ![v3953.toNat, 0]

def k0_chk6 (i : grid0.Coords) (k0_t1 : Fin k0_t1_loop.trips) (v3949 : BitVec 32) : Prop :=
  (∀ (k0_h2 : k0_cond2 i = 1#1), ∀ a, (k0_off50 k0_t1 v3949) a + S1x128.size a ≤ S32000x128.size a)
theorem k0_off50_inb : ∀ (i : grid0.Coords) (k0_t1 : Fin k0_t1_loop.trips) (v3949 : BitVec 32) (k0_hw6 : k0_chk6 i k0_t1 v3949), ∀ (k0_h2 : k0_cond2 i = 1#1), ∀ a, (k0_off50 k0_t1 v3949) a + S1x128.size a ≤ S32000x128.size a := fun i k0_t1 v3949 k0_hw6 k0_h2 => k0_hw6 k0_h2

def k0_off51 (k0_t1 : Fin k0_t1_loop.trips) : Fin 2 → Nat :=
  let c640_i32 : BitVec 32 := 640#32
  let c0_i32_1302 : BitVec 32 := 0#32
  let c1_i32_1304 : BitVec 32 := 1#32
  let arg17 : BitVec 32 := Scf.iv c0_i32_1302 c1_i32_1304 k0_t1
  let v3955 : BitVec 32 := Scalar.addi c640_i32 arg17
  let v3956 : Index := Scalar.indexCast v3955
  let c0_1398 : Index := 0#32
  ![v3956.toNat, 0]
def k0_off52 (k0_t1 : Fin k0_t1_loop.trips) : Fin 2 → Nat :=
  let c0_i32_1302 : BitVec 32 := 0#32
  let c1_i32_1304 : BitVec 32 := 1#32
  let arg17 : BitVec 32 := Scf.iv c0_i32_1302 c1_i32_1304 k0_t1
  let v3960 : Index := Scalar.indexCast arg17
  let c6_1399 : Index := 6#32
  ![v3960.toNat, 6]
def k0_off53 (k0_t1 : Fin k0_t1_loop.trips) (v3961 : BitVec 32) : Fin 2 → Nat :=
  let c7_i32_1400 : BitVec 32 := 7#32
  let v3962 : BitVec 32 := Scalar.shrui v3961 c7_i32_1400
  let c128_i32_1401 : BitVec 32 := 128#32
  let v3963 : BitVec 32 := Scalar.muli v3962 c128_i32_1401
  let c0_i32_1302 : BitVec 32 := 0#32
  let c1_i32_1304 : BitVec 32 := 1#32
  let arg17 : BitVec 32 := Scf.iv c0_i32_1302 c1_i32_1304 k0_t1
  let v3964 : BitVec 32 := Scalar.addi v3963 arg17
  let v3965 : Index := Scalar.indexCast v3964
  let c0_1402 : Index := 0#32
  ![v3965.toNat, 0]

def k0_chk7 (i : grid0.Coords) (k0_t1 : Fin k0_t1_loop.trips) (v3961 : BitVec 32) : Prop :=
  (∀ (k0_h2 : k0_cond2 i = 1#1), ∀ a, (k0_off53 k0_t1 v3961) a + S1x128.size a ≤ S32000x128.size a)
theorem k0_off53_inb : ∀ (i : grid0.Coords) (k0_t1 : Fin k0_t1_loop.trips) (v3961 : BitVec 32) (k0_hw7 : k0_chk7 i k0_t1 v3961), ∀ (k0_h2 : k0_cond2 i = 1#1), ∀ a, (k0_off53 k0_t1 v3961) a + S1x128.size a ≤ S32000x128.size a := fun i k0_t1 v3961 k0_hw7 k0_h2 => k0_hw7 k0_h2

def k0_off54 (k0_t1 : Fin k0_t1_loop.trips) : Fin 2 → Nat :=
  let c768_i32 : BitVec 32 := 768#32
  let c0_i32_1302 : BitVec 32 := 0#32
  let c1_i32_1304 : BitVec 32 := 1#32
  let arg17 : BitVec 32 := Scf.iv c0_i32_1302 c1_i32_1304 k0_t1
  let v3967 : BitVec 32 := Scalar.addi c768_i32 arg17
  let v3968 : Index := Scalar.indexCast v3967
  let c0_1403 : Index := 0#32
  ![v3968.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S250x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S128x7 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x7 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1280x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S64x2x4096 : Shape := ⟨3, ![64, 2, 4096]⟩
abbrev S64x1x4096 : Shape := ⟨3, ![64, 1, 4096]⟩
abbrev S64x2x256 : Shape := ⟨3, ![64, 2, 256]⟩
abbrev S64x1x256 : Shape := ⟨3, ![64, 1, 256]⟩
  | .local _ .vmem, ⟨8, _⟩ => ⟨S64x2x4096, .bf16⟩
variable {F : FTy → Type} [FloatOps F]
-- ==== ReferenceIdeal.lean ====
abbrev S1x128x4096 : Shape := ⟨3, ![1, 128, 4096]⟩
abbrev S1x128 : Shape := ⟨2, ![1, 128]⟩
abbrev S32000x4096 : Shape := ⟨2, ![32000, 4096]⟩
abbrev S250x32 : Shape := ⟨2, ![250, 32]⟩
abbrev S1x128x7 : Shape := ⟨3, ![1, 128, 7]⟩
abbrev S250x128x32x128 : Shape := ⟨4, ![250, 128, 32, 128]⟩
abbrev S250x1x32x1 : Shape := ⟨4, ![250, 1, 32, 1]⟩
abbrev S1x128x32000 : Shape := ⟨3, ![1, 128, 32000]⟩
abbrev S1x128x1 : Shape := ⟨3, ![1, 128, 1]⟩
abbrev S_ : Shape := ⟨0, ![]⟩
abbrev S128x7x1 : Shape := ⟨3, ![128, 7, 1]⟩
abbrev S1 : Shape := ⟨1, ![1]⟩
abbrev S1x1x1 : Shape := ⟨3, ![1, 1, 1]⟩
abbrev S128x7 : Shape := ⟨2, ![128, 7]⟩

abbrev nBuf : Space → Nat
  | .hbm => 67
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S1x128, .f32⟩
  | .hbm, ⟨2, _⟩ => ⟨S32000x4096, .f32⟩
  | .hbm, ⟨3, _⟩ => ⟨S250x32, .f32⟩
  | .hbm, ⟨4, _⟩ => ⟨S1x128x7, .i32⟩
  | .hbm, ⟨5, _⟩ => ⟨S1x128x4096, .bf16⟩
  | .hbm, ⟨6, _⟩ => ⟨S32000x4096, .bf16⟩
  | .hbm, ⟨7, _⟩ => ⟨S250x128x32x128, .bf16⟩
  | .hbm, ⟨8, _⟩ => ⟨S250x32, .bf16⟩
  | .hbm, ⟨9, _⟩ => ⟨S250x1x32x1, .bf16⟩
  | .hbm, ⟨10, _⟩ => ⟨S250x128x32x128, .bf16⟩
  | .hbm, ⟨11, _⟩ => ⟨S250x128x32x128, .bf16⟩
  | .hbm, ⟨12, _⟩ => ⟨S32000x4096, .bf16⟩
  | .hbm, ⟨13, _⟩ => ⟨S1x128x32000, .f32⟩
  | .hbm, ⟨14, _⟩ => ⟨S1x128x1, .f32⟩
  | .hbm, ⟨15, _⟩ => ⟨S1x128x32000, .f32⟩
  | .hbm, ⟨16, _⟩ => ⟨S1x128x32000, .f32⟩
  | .hbm, ⟨17, _⟩ => ⟨S_, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128x1, .f32⟩
  | .hbm, ⟨23, _⟩ => ⟨S1x128x32000, .f32⟩
  | .hbm, ⟨24, _⟩ => ⟨S1x128x32000, .f32⟩
  | .hbm, ⟨25, _⟩ => ⟨S1x128x32000, .f32⟩
  | .hbm, ⟨26, _⟩ => ⟨S_, .f32⟩
  | .hbm, ⟨27, _⟩ => ⟨S1x128, .f32⟩
  | .hbm, ⟨28, _⟩ => ⟨S1x128x1, .f32⟩
  | .hbm, ⟨29, _⟩ => ⟨S1x128x1, .f32⟩
  | .hbm, ⟨30, _⟩ => ⟨S1x128x32000, .f32⟩
  | .hbm, ⟨31, _⟩ => ⟨S1x128x32000, .f32⟩
  | .hbm, ⟨32, _⟩ => ⟨S1x128x32000, .f32⟩
  | .hbm, ⟨33, _⟩ => ⟨S1x128x32000, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128x1, .f32⟩
  | .hbm, ⟨38, _⟩ => ⟨S1x128x32000, .f32⟩
  | .hbm, ⟨39, _⟩ => ⟨S1x128x32000, .f32⟩
  | .hbm, ⟨40, _⟩ => ⟨S1x128x32000, .f32⟩
  | .hbm, ⟨41, _⟩ => ⟨S1x128x32000, .f32⟩
  | .hbm, ⟨42, _⟩ => ⟨S_, .f32⟩
  | .hbm, ⟨43, _⟩ => ⟨S1x128, .f32⟩
  | .hbm, ⟨44, _⟩ => ⟨S_, .i32⟩
  | .hbm, ⟨45, _⟩ => ⟨S1x128x7, .i32⟩
  | .hbm, ⟨46, _⟩ => ⟨S1x128x7, .i1⟩
  | .hbm, ⟨47, _⟩ => ⟨S_, .i32⟩
  | .hbm, ⟨48, _⟩ => ⟨S1x128x7, .i32⟩
  | .hbm, ⟨49, _⟩ => ⟨S1x128x7, .i32⟩
  | .hbm, ⟨50, _⟩ => ⟨S1x128x7, .i32⟩
  | .hbm, ⟨51, _⟩ => ⟨S128x7x1, .i32⟩
  | .hbm, ⟨52, _⟩ => ⟨S1, .i32⟩
  | .hbm, ⟨53, _⟩ => ⟨S_, .i32⟩
  | .hbm, ⟨54, _⟩ => ⟨S128x7x1, .i32⟩
  | .hbm, ⟨55, _⟩ => ⟨S128x7x1, .i1⟩
  | .hbm, ⟨56, _⟩ => ⟨S1x1x1, .i32⟩
  | .hbm, ⟨57, _⟩ => ⟨S128x7x1, .i32⟩
  | .hbm, ⟨58, _⟩ => ⟨S128x7x1, .i1⟩
  | .hbm, ⟨59, _⟩ => ⟨S128x7x1, .i1⟩
  | .hbm, ⟨60, _⟩ => ⟨S_, .i1⟩
  | .hbm, ⟨61, _⟩ => ⟨S128x7, .i1⟩
  | .hbm, ⟨62, _⟩ => ⟨S1x128x7, .f32⟩
  | .hbm, ⟨63, _⟩ => ⟨S1x128x7, .i1⟩
  | .hbm, ⟨64, _⟩ => ⟨S_, .f32⟩
  | .hbm, ⟨65, _⟩ => ⟨S1x128x7, .f32⟩
  | .hbm, ⟨66, _⟩ => ⟨S1x128x7, .f32⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v23 : Ref sig .tc := ⟨.hbm, 66, rfl⟩

abbrev nD : Nat := 1
abbrev τ : Topo := Topo.v7x

variable {F : FTy → Type} [FloatOps F]
-- ==== Proof.Pre.lean ====
module

public import proofs.«01_k».proof.Defs
public import proofs.«01_k».proof.Proof.Gen.Pre_targets_in_range
public import Idealize.ShloMosaic.Lib.ReduceAll
public import Idealize.ShloMosaic.Lib.ValueIdx

@[expose] public section

noncomputable section

namespace Cert.Pre

open Idealize.ShloMosaic

/-- A word at least 0 and below 32000 as a signed number is below 32000 as an unsigned one. -/
theorem toNat_lt_of_signed (v : BitVec 32) (h0 : IntOp.cmpi .sge v 0#32 = 1#1) (h1 : IntOp.cmpi .slt v 32000#32 = 1#1) :
    v.toNat < 32000 := by
  have a : BitVec.sle 0#32 v = true := by
    rcases hb : BitVec.sle 0#32 v with _ | _
    · exact absurd (h0.symm.trans (show IntOp.cmpi .sge v 0#32 = 0#1 by simp only [IntOp.cmpi, hb]; rfl)) (by decide)
    · rfl
  have b : BitVec.slt v 32000#32 = true := by
    rcases hb : BitVec.slt v 32000#32 with _ | _
    · exact absurd (h1.symm.trans (show IntOp.cmpi .slt v 32000#32 = 0#1 by simp only [IntOp.cmpi, hb]; rfl)) (by decide)
    · rfl
  rw [BitVec.sle_iff_toInt_le] at a
  rw [BitVec.slt_iff_toInt_lt] at b
  rw [show (0#32 : BitVec 32).toInt = 0 from by decide] at a
  rw [show (32000#32 : BitVec 32).toInt = 32000 from by decide] at b
  have := BitVec.toInt_eq_toNat_cond v
  split at this <;> omega

section
variable {F : FTy → Type} [FloatOps F]

/-- Under `targets_in_range` every target is below 32000. -/
theorem targets_lt (a0 : FVec F Pre_targets_in_range.S1x128x4096 .f32) (a1 : FVec F Pre_targets_in_range.S1x128 .f32)
    (a2 : FVec F Pre_targets_in_range.S32000x4096 .f32) (a3 : FVec F Pre_targets_in_range.S250x32 .f32)
    (a4 : IVec Pre_targets_in_range.S1x128x7 32)
    (h : Pre_targets_in_range.fn (F := F) a0 a1 a2 a3 a4 = fun _ => 1#1) (z : Pre_targets_in_range.S1x128x7.Idx) :
    (a4 z).toNat < 32000 := by
  have h2 := congrFun h (fun a => a.elim0)
  unfold Pre_targets_in_range.fn at h2
  dsimp only at h2
  haveI : Subsingleton Pre_targets_in_range.S_.Idx := ⟨fun a b => funext fun i => i.elim0⟩
  have h3 := Host.reduce_andi_all _ _ _ _ _ h2 z
  have h4 := IntOp.andi_eq_one.mp h3
  exact toNat_lt_of_signed _ h4.1 h4.2
end

/-- The f32 pattern of +∞ names ⊤. -/
theorem ofBits_inf : Ideal.ofBits .f32 0x7F800000#32 = (⊤ : EReal) := by
  show Ideal.ieee 8 23 (0x7F800000#32) = _
  unfold Ideal.ieee
  rw [if_pos (by decide), if_pos (by decide), if_neg (by decide)]

/-- The f32 pattern of −∞ names ⊥. -/
theorem ofBits_neg_inf : Ideal.ofBits .f32 0xFF800000#32 = (⊥ : EReal) := by
  show Ideal.ieee 8 23 (0xFF800000#32) = _
  unfold Ideal.ieee
  rw [if_pos (by decide), if_pos (by decide), if_pos (by decide)]

/-- The f32 pattern of zero names 0. -/
theorem ofBits_zero : Ideal.ofBits .f32 0x00000000#32 = (0 : EReal) := by
  show Ideal.ieee 8 23 (0x00000000#32) = _
  unfold Ideal.ieee
  rw [if_neg (by decide), if_pos (by decide), show ((0x00000000#32 : BitVec 32).extractLsb' 0 23).toNat = 0 from by decide]
  simp

/-- A value whose absolute value is below the infinity of the format is a real number. -/
theorem real_of_abs_lt (v : EReal) (h : FloatOps.cmpf (F := Ideal) (φ := .f32) .olt (FloatOps.absf (F := Ideal) (φ := .f32) v) (FloatOps.ofBits (F := Ideal) .f32 0x7F800000#32) = 1#1) :
    ∃ r : ℝ, v = (r : EReal) := by
  have h1 : max v (-v) < (⊤ : EReal) := by
    have h2 : Ideal.cmp .olt (max v (-v)) (Ideal.ofBits .f32 0x7F800000#32) = 1#1 := h
    rw [ofBits_inf] at h2
    by_contra h3
    refine absurd (h2.symm.trans (show Ideal.cmp .olt (max v (-v)) ⊤ = 0#1 from ?_)) (by decide)
    simp only [Ideal.cmp, h3, decide_false]; rfl
  induction v using EReal.rec with
  | bot => simp at h1
  | top => simp at h1
  | coe r => exact ⟨r, rfl⟩

end Cert.Pre

end
-- ==== Proof.PreDomain.lean ====
module

public import proofs.«01_k».proof.Proof.Pre
public import proofs.«01_k».proof.Proof.Gen.Pre_in_domain

@[expose] public section

noncomputable section

namespace Cert.Pre

open Idealize.ShloMosaic

section
variable (a0 : FVec Ideal Pre_in_domain.S1x128x4096 .f32) (a1 : FVec Ideal Pre_in_domain.S1x128 .f32)
    (a2 : FVec Ideal Pre_in_domain.S32000x4096 .f32) (a3 : FVec Ideal Pre_in_domain.S250x32 .f32)
    (a4 : IVec Pre_in_domain.S1x128x7 32) (h : Pre_in_domain.fn (F := Ideal) a0 a1 a2 a3 a4 = fun _ => 1#1)
include h

/-- Under `in_domain` every float argument is a real number everywhere and every target is below 32000. -/
theorem domain : (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ ∀ i, (a4 i).toNat < 32000 := by
  have h2 := congrFun h (fun a => a.elim0)
  unfold Pre_in_domain.fn at h2
  unfold Pre_in_domain.fn_part1 at h2
  dsimp only at h2
  haveI : Subsingleton Pre_in_domain.S_.Idx := ⟨fun a b => funext fun i => i.elim0⟩
  obtain ⟨h3, hT⟩ := IntOp.andi_eq_one.mp h2
  obtain ⟨h4, hS⟩ := IntOp.andi_eq_one.mp h3
  obtain ⟨h5, hW⟩ := IntOp.andi_eq_one.mp h4
  obtain ⟨hX, hXS⟩ := IntOp.andi_eq_one.mp h5
  refine ⟨fun i => ?_, fun i => ?_, fun i => ?_, fun i => ?_, fun i => ?_⟩
  · exact real_of_abs_lt _ (Host.reduce_andi_all _ _ _ _ _ hX i)
  · exact real_of_abs_lt _ (Host.reduce_andi_all _ _ _ _ _ hXS i)
  · exact real_of_abs_lt _ (Host.reduce_andi_all _ _ _ _ _ hW i)
  · exact real_of_abs_lt _ (Host.reduce_andi_all _ _ _ _ _ hS i)
  · have e := IntOp.andi_eq_one.mp (Host.reduce_andi_all _ _ _ _ _ hT i)
    exact toNat_lt_of_signed _ e.1 e.2
end

end Cert.Pre

end
-- ==== Proof.Math.lean ====
module

public import Mathlib.Analysis.SpecialFunctions.Log.Basic
public import Mathlib.Tactic.FieldSimp
public import Mathlib.Tactic.Ring
public import Mathlib.Data.EReal.Inv
public import Mathlib.Algebra.BigOperators.Fin
public import Idealize.ShloMosaic.PureOps.Ideal

@[expose] public section

noncomputable section

namespace Cert.Stat

open Idealize.ShloMosaic

/-- The sum of the real numbers of a finite family, read as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The exponential of a real number. -/
theorem exp_coe (r : ℝ) : Ideal.exp (r : EReal) = ((Real.exp r : ℝ) : EReal) := rfl

/-- The logarithm of a positive real number. -/
theorem log_coe (r : ℝ) (h : 0 < r) : Ideal.log (r : EReal) = ((Real.log r : ℝ) : EReal) := by
  show (if r ≤ 0 then (⊥ : EReal) else _) = _
  rw [if_neg (not_le.mpr h)]

/-- The quotient of real numbers, the divisor positive. -/
theorem div_coe (x y : ℝ) (h : 0 < y) : Ideal.div (x : EReal) (y : EReal) = ((x / y : ℝ) : EReal) := by
  unfold Ideal.div
  rw [if_neg (by exact_mod_cast h.ne'), ← EReal.coe_inv, ← EReal.coe_mul]
  rfl

/-- The maximum of real numbers. -/
theorem max_coe (x y : ℝ) : max (x : EReal) (y : EReal) = ((max x y : ℝ) : EReal) :=
  (EReal.coe_strictMono.monotone.map_max).symm

/-- The largest of a nonempty finite family of real numbers, folded from minus infinity, is a real number. -/
theorem fold_max_real {ι : Type} [Fintype ι] [Nonempty ι] (f : ι → EReal) (h : ∀ i, ∃ r : ℝ, f i = r) :
    ∃ r : ℝ, Finset.fold max (⊥ : EReal) f Finset.univ = r := by
  classical
  have key : ∀ s : Finset ι, s.Nonempty → ∃ r : ℝ, Finset.fold max (⊥ : EReal) f s = r := by
    intro s hs
    induction hs using Finset.Nonempty.cons_induction with
    | singleton a => obtain ⟨r, hr⟩ := h a; exact ⟨r, by rw [Finset.fold_singleton, hr]; exact max_eq_left bot_le⟩
    | cons a s ha hs ih =>
      obtain ⟨r, hr⟩ := h a
      obtain ⟨q, hq⟩ := ih
      exact ⟨max r q, by rw [Finset.fold_cons, hr, hq, max_coe]⟩
  exact key _ Finset.univ_nonempty

/-- The running values of one lane after the numbers `zs 0`, …, `zs (N - 1)`: a reference point `m`, and the sums of the
    exponentials of the distances to it, of the distances weighted by them, and of their squares weighted by them. -/
def Lane (zs : ℕ → ℝ) (N : ℕ) (m s a b : EReal) : Prop :=
  (N = 0 ∧ m = ⊥ ∧ s = 0 ∧ a = 0 ∧ b = 0) ∨
  (0 < N ∧ ∃ M : ℝ, m = M ∧ s = ((∑ k ∈ Finset.range N, Real.exp (zs k - M) : ℝ) : EReal)
    ∧ a = ((∑ k ∈ Finset.range N, Real.exp (zs k - M) * (zs k - M) : ℝ) : EReal)
    ∧ b = ((∑ k ∈ Finset.range N, Real.exp (zs k - M) * (zs k - M) ^ 2 : ℝ) : EReal))

/-- Moving the reference point: the sum of exponentials. -/
theorem shift_s {ι : Type} (s : Finset ι) (z : ι → ℝ) (M d : ℝ) :
    (∑ k ∈ s, Real.exp (z k - M)) * Real.exp d = ∑ k ∈ s, Real.exp (z k - (M - d)) := by
  rw [Finset.sum_mul]
  refine Finset.sum_congr rfl fun k _ => ?_
  rw [← Real.exp_add]; congr 1; ring

/-- Moving the reference point: the first moment. -/
theorem shift_a {ι : Type} (s : Finset ι) (z : ι → ℝ) (M d : ℝ) :
    ((∑ k ∈ s, Real.exp (z k - M) * (z k - M)) + d * ∑ k ∈ s, Real.exp (z k - M)) * Real.exp d
      = ∑ k ∈ s, Real.exp (z k - (M - d)) * (z k - (M - d)) := by
  rw [Finset.mul_sum, ← Finset.sum_add_distrib, Finset.sum_mul]
  refine Finset.sum_congr rfl fun k _ => ?_
  rw [show z k - (M - d) = (z k - M) + d by ring, Real.exp_add]; ring

/-- Moving the reference point: the second moment. -/
theorem shift_b {ι : Type} (s : Finset ι) (z : ι → ℝ) (M d : ℝ) :
    ((∑ k ∈ s, Real.exp (z k - M) * (z k - M) ^ 2) + d * (2 * (∑ k ∈ s, Real.exp (z k - M) * (z k - M)) + d * ∑ k ∈ s, Real.exp (z k - M))) * Real.exp d
      = ∑ k ∈ s, Real.exp (z k - (M - d)) * (z k - (M - d)) ^ 2 := by
  rw [Finset.mul_sum, Finset.mul_sum, ← Finset.sum_add_distrib, Finset.mul_sum, ← Finset.sum_add_distrib, Finset.sum_mul]
  refine Finset.sum_congr rfl fun k _ => ?_
  rw [show z k - (M - d) = (z k - M) + d by ring, Real.exp_add]; ring

/-- One more number: the kernel's update of the four running values keeps their meaning. -/
theorem Lane.next {zs : ℕ → ℝ} {N : ℕ} {m s a b z : EReal} (h : Lane zs N m s a b) (hz : z = (zs N : ℝ)) :
    Lane zs (N + 1) (max m z)
      (s * Ideal.exp (if m = ⊥ then 0 else m - max m z) + Ideal.exp (z - max m z))
      ((a + (if m = ⊥ then 0 else m - max m z) * s) * Ideal.exp (if m = ⊥ then 0 else m - max m z) + Ideal.exp (z - max m z) * (z - max m z))
      ((b + (if m = ⊥ then 0 else m - max m z) * ((2 : ℝ) * a + (if m = ⊥ then 0 else m - max m z) * s)) * Ideal.exp (if m = ⊥ then 0 else m - max m z)
        + Ideal.exp (z - max m z) * (z - max m z) * (z - max m z)) := by
  subst hz
  refine Or.inr ⟨Nat.succ_pos _, ?_⟩
  rcases h with ⟨rfl, rfl, rfl, rfl, rfl⟩ | ⟨hN, M, rfl, rfl, rfl, rfl⟩
  · refine ⟨zs 0, max_eq_right bot_le, ?_⟩
    rw [max_eq_right (bot_le (a := ((zs 0 : ℝ) : EReal))), if_pos rfl, ← EReal.coe_sub, exp_coe]
    simp
  · have hb : ((M : ℝ) : EReal) ≠ ⊥ := EReal.coe_ne_bot M
    rw [if_neg hb, max_coe]
    refine ⟨max M (zs N), rfl, ?_⟩
    generalize max M (zs N) = M'
    have e : M' = M - (M - M') := by ring
    rw [← EReal.coe_sub, ← EReal.coe_sub, exp_coe, exp_coe]
    refine ⟨?_, ?_, ?_⟩
    · rw [Finset.sum_range_succ, ← EReal.coe_mul, ← EReal.coe_add, shift_s, ← e]
    · rw [Finset.sum_range_succ, ← EReal.coe_mul, ← EReal.coe_mul, ← EReal.coe_add, ← EReal.coe_mul, ← EReal.coe_add, shift_a, ← e]
    · rw [Finset.sum_range_succ]
      simp only [← EReal.coe_mul, ← EReal.coe_add]
      rw [shift_b, ← e]
      congr 2
      ring

section stats
variable {ι : Type} [Fintype ι]

/-- The sum of the exponentials of the logits. -/
def tot (z : ι → ℝ) : ℝ := ∑ v, Real.exp (z v)
/-- The logarithm of the sum of the exponentials. -/
def lse (z : ι → ℝ) : ℝ := Real.log (tot z)
/-- The mean logit under the softmax. -/
def mean (z : ι → ℝ) : ℝ := (∑ v, Real.exp (z v) * z v) / tot z
/-- The entropy of the softmax. -/
def entropy (z : ι → ℝ) : ℝ := lse z - mean z
/-- The variance of the logits under the softmax. -/
def variance (z : ι → ℝ) : ℝ := (∑ v, Real.exp (z v) * z v ^ 2) / tot z - mean z ^ 2

variable [Nonempty ι] (z : ι → ℝ)

theorem tot_pos : 0 < tot z := Finset.sum_pos (fun v _ => Real.exp_pos _) Finset.univ_nonempty

/-- The sum of exponentials from a reference point. -/
theorem tot_shift (M : ℝ) : ∑ v, Real.exp (z v - M) = tot z * Real.exp (-M) := by
  have := shift_s Finset.univ z 0 (-M)
  simp only [sub_zero, zero_sub, neg_neg] at this
  exact this.symm

theorem tot_shift_pos (M : ℝ) : 0 < ∑ v, Real.exp (z v - M) := Finset.sum_pos (fun v _ => Real.exp_pos _) Finset.univ_nonempty

/-- The logarithm of the sum of exponentials from a reference point. -/
theorem log_shift (M : ℝ) : Real.log (∑ v, Real.exp (z v - M)) = lse z - M := by
  rw [tot_shift, Real.log_mul (tot_pos z).ne' (Real.exp_pos _).ne', Real.log_exp]; rfl

/-- The mean from a reference point. -/
theorem mean_shift (M : ℝ) : (∑ v, Real.exp (z v - M) * (z v - M)) / (∑ v, Real.exp (z v - M)) = mean z - M := by
  have h := shift_a Finset.univ z 0 (-M)
  simp only [sub_zero, zero_sub, neg_neg] at h
  change ((_ + -M * tot z) * _) = _ at h
  rw [← h, tot_shift]
  have := (tot_pos z).ne'
  have := (Real.exp_pos (-M)).ne'
  unfold mean
  field_simp
  ring

/-- The second moment from a reference point. -/
theorem second_shift (M : ℝ) : (∑ v, Real.exp (z v - M) * (z v - M) ^ 2) / (∑ v, Real.exp (z v - M)) = variance z + (mean z - M) ^ 2 := by
  have h := shift_b Finset.univ z 0 (-M)
  simp only [sub_zero, zero_sub, neg_neg] at h
  change ((_ + -M * (_ + -M * tot z)) * _) = _ at h
  rw [← h, tot_shift]
  have := (tot_pos z).ne'
  have := (Real.exp_pos (-M)).ne'
  unfold variance mean
  field_simp
  ring

/-- The weight of a word in the softmax. -/
theorem weight (v : ι) : Real.exp (z v - lse z) = Real.exp (z v) / tot z := by
  rw [Real.exp_sub, lse, Real.exp_log (tot_pos z)]

/-- The entropy as the mean of the negated log-probabilities. -/
theorem entropy_eq : -(∑ v, Real.exp (z v - lse z) * (z v - lse z)) = entropy z := by
  have h := mean_shift z (lse z)
  have h1 : ∑ v, Real.exp (z v - lse z) = 1 := by
    simp only [weight]; rw [← Finset.sum_div]; exact div_self (tot_pos z).ne'
  rw [h1, div_one] at h
  rw [h, entropy]; ring

/-- The variance as the mean of the squared deviations of the log-probabilities. -/
theorem variance_eq : ∑ v, Real.exp (z v - lse z) * ((z v - lse z) + entropy z) ^ 2 = variance z := by
  have h1 : ∑ v, Real.exp (z v - lse z) = 1 := by
    simp only [weight]; rw [← Finset.sum_div]; exact div_self (tot_pos z).ne'
  have ha := mean_shift z (lse z)
  have hb := second_shift z (lse z)
  rw [h1, div_one] at ha hb
  have : ∀ v, Real.exp (z v - lse z) * ((z v - lse z) + entropy z) ^ 2
      = Real.exp (z v - lse z) * (z v - lse z) ^ 2 + (2 * entropy z) * (Real.exp (z v - lse z) * (z v - lse z)) + entropy z ^ 2 * Real.exp (z v - lse z) := by
    intro v; ring
  simp only [this]
  rw [Finset.sum_add_distrib, Finset.sum_add_distrib, ← Finset.mul_sum, ← Finset.mul_sum, h1, ha, hb]
  unfold entropy; ring

/-- A variance is not negative. -/
theorem variance_nonneg : 0 ≤ variance z := by
  rw [← variance_eq]
  exact Finset.sum_nonneg fun v _ => mul_nonneg (Real.exp_pos _).le (sq_nonneg _)
end stats

/-- A sum over 32000 words, by 256 lanes of 125. -/
theorem sum_lanes {M : Type} [AddCommMonoid M] (f : Fin 32000 → M) (g : Fin 256 → ℕ → M)
    (h : ∀ (l : Fin 256) (k : Fin 125), g l k.val = f ⟨256 * k.val + l.val, by omega⟩) :
    ∑ l : Fin 256, ∑ k ∈ Finset.range 125, g l k = ∑ v, f v := by
  have h1 : ∀ l : Fin 256, ∑ k ∈ Finset.range 125, g l k = ∑ k : Fin 125, f ⟨256 * k.val + l.val, by omega⟩ := by
    intro l; rw [Finset.sum_range]; exact Finset.sum_congr rfl fun k _ => h l k
  simp only [h1]
  rw [Finset.sum_comm, ← Fintype.sum_prod_type' (f := fun (k : Fin 125) (l : Fin 256) => f ⟨256 * k.val + l.val, by omega⟩)]
  refine Fintype.sum_equiv (finProdFinEquiv (m := 125) (n := 256)) _ _ fun x => congrArg f (Fin.ext ?_)
  show 256 * x.1.val + x.2.val = x.2.val + 256 * x.1.val
  omega

end Cert.Stat

end
-- ==== Proof.Ref.lean ====
module

public import proofs.«01_k».proof.Proof.Gen.ReferenceIdeal
public import proofs.«01_k».proof.Proof.Math
public import Idealize.ShloMosaic.Lib.Pointwise
public import Idealize.ShloMosaic.Lib.ReduceAll
public import Idealize.ShloMosaic.Lib.ValueIdx

@[expose] public section

set_option maxRecDepth 8192

noncomputable section

namespace Cert.ReferenceIdeal.Value

open Cert.ReferenceIdeal Cert.ReferenceIdeal.Gen Idealize.ShloMosaic Idealize.ShloMosaic.TcCoe Cert.Stat

/-- The f32 pattern of −∞ names ⊥. -/
theorem neg_inf : Ideal.ofBits .f32 0xFF800000#32 = (⊥ : EReal) := by
  show Ideal.ieee 8 23 (0xFF800000#32) = _
  unfold Ideal.ieee
  rw [if_pos (by decide), if_pos (by decide), if_pos (by decide)]

/-- The logits as the reference computes them. -/
def zV (x : FVec Ideal S1x128x4096 .f32) (xs : FVec Ideal S1x128 .f32) (w : FVec Ideal S32000x4096 .f32) (s : FVec Ideal S250x32 .f32) : FVec Ideal S1x128x32000 .f32 :=
  mulf (Host.dotGeneral dot_S1x128x4096_S32000x4096_S1x128x32000_2_1_01_0_n_n none (truncf .bf16 x bitsLt_bf16_f32)
      (shapeCast S32000x4096 (mulf (shapeCast S250x128x32x128 (truncf .bf16 w bitsLt_bf16_f32) shapeCasts_S32000x4096_S250x128x32x128)
        (broadcastInDim S250x128x32x128 ![0, 1, 2, 3] bcast_S250x1x32x1_S250x128x32x128_0_1_2_3 (broadcastInDim S250x1x32x1 ![0, 2] bcast_S250x32_S250x1x32x1_0_2 (truncf .bf16 s bitsLt_bf16_f32))))
        shapeCasts_S250x128x32x128_S32000x4096))
    (broadcastInDim S1x128x32000 ![0, 1, 2] bcast_S1x128x1_S1x128x32000_0_1_2 (broadcastInDim S1x128x1 ![0, 1] bcast_S1x128_S1x128x1_0_1 xs))

/-- The row maximum of the logits. -/
def mxV (Z : FVec Ideal S1x128x32000 .f32) : FVec Ideal S1x128 .f32 :=
  Host.reduce FloatOps.maximumf Z (constant S_ .f32 0xFF800000#32) reducesTo_S1x128x32000_S1x128_d2 h_S_

/-- The row maximum, no less than minus infinity. -/
def topV (M : FVec Ideal S1x128 .f32) : FVec Ideal S1x128 .f32 :=
  maximumf (broadcastInDim S1x128 ![] bcast_S_S1x128 (constant S_ .f32 0xFF800000#32)) M

/-- The logits less a number per row. -/
def subV (Z : FVec Ideal S1x128x32000 .f32) (M : FVec Ideal S1x128 .f32) : FVec Ideal S1x128x32000 .f32 :=
  subf Z (broadcastInDim S1x128x32000 ![0, 1, 2] bcast_S1x128x1_S1x128x32000_0_1_2 (broadcastInDim S1x128x1 ![0, 1] bcast_S1x128_S1x128x1_0_1 M))

/-- The logits less their row maximum. -/
def shV (Z : FVec Ideal S1x128x32000 .f32) : FVec Ideal S1x128x32000 .f32 := subV Z (topV (mxV Z))

/-- The log-probabilities of every word. -/
def lpV (Z : FVec Ideal S1x128x32000 .f32) : FVec Ideal S1x128x32000 .f32 :=
  subf (shV Z) (broadcastInDim S1x128x32000 ![0, 1, 2] bcast_S1x128x1_S1x128x32000_0_1_2 (Host.log (broadcastInDim S1x128x1 ![0, 1] bcast_S1x128_S1x128x1_0_1
    (Host.reduceAdd (Host.exp (shV Z)) (constant S_ .f32 0x00000000#32) reducesTo_S1x128x32000_S1x128_d2 h_S_))))

/-- The entropy from the log-probabilities. -/
def entV (Lp : FVec Ideal S1x128x32000 .f32) : FVec Ideal S1x128 .f32 :=
  Host.negf (Host.reduceAdd (mulf (Host.exp Lp) Lp) (constant S_ .f32 0x00000000#32) reducesTo_S1x128x32000_S1x128_d2 h_S_)

/-- The log-probabilities and the entropy added. -/
def devV (Lp : FVec Ideal S1x128x32000 .f32) : FVec Ideal S1x128x32000 .f32 :=
  addf Lp (broadcastInDim S1x128x32000 ![0, 1, 2] bcast_S1x128x1_S1x128x32000_0_1_2 (broadcastInDim S1x128x1 ![0, 1] bcast_S1x128_S1x128x1_0_1 (entV Lp)))

/-- The variance of the log-probabilities. -/
def varV (Lp : FVec Ideal S1x128x32000 .f32) : FVec Ideal S1x128 .f32 :=
  Host.reduceAdd (mulf (Host.exp Lp) (mulf (devV Lp) (devV Lp))) (constant S_ .f32 0x00000000#32) reducesTo_S1x128x32000_S1x128_d2 h_S_

/-- The target words as the reference indexes by them: a negative word counts from the end. -/
def wrapV (tg : IVec S1x128x7 32) : IVec S128x7x1 32 :=
  shapeCast S128x7x1 (select (cmpi .slt tg (broadcastInDim S1x128x7 ![] bcast_S_S1x128x7 (constantI S_ 32 0#32)))
    (addi tg (broadcastInDim S1x128x7 ![] bcast_S_S1x128x7 (constantI S_ 32 32000#32))) tg) shapeCasts_S1x128x7_S128x7x1

/-- Which targets name a word of the vocabulary. -/
def okV (I : IVec S128x7x1 32) : IVec S128x7 1 :=
  Host.reduce IntOp.andi (andi (cmpi .sge I (broadcastInDim S128x7x1 ![] bcast_S_S128x7x1 (constantI S_ 32 0#32)))
    (cmpi .sle I (broadcastInDim S128x7x1 ![0, 1, 2] bcast_S1x1x1_S128x7x1_0_1_2 (broadcastInDim S1x1x1 ![2] bcast_S1_S1x1x1_2 (constantI S1 32 31999#32)))))
    (constantI S_ 1 1#1) reducesTo_S128x7x1_S128x7_d2 h_S_

/-- The log-probabilities of the targets. -/
def tlpV (Lp : FVec Ideal S1x128x32000 .f32) (tg : IVec S1x128x7 32) : FVec Ideal S1x128x7 .f32 :=
  select (broadcastInDim S1x128x7 ![1, 2] bcast_S128x7_S1x128x7_1_2 (okV (wrapV tg)))
    (Host.gather gather_S1x128x32000_S128x7x1_S1x128x7_0_2_1_0_2_2_111 Lp (wrapV tg))
    (broadcastInDim S1x128x7 ![] bcast_S_S1x128x7 (constant S_ .f32 0x7FC00000#32))

/-- A logit of the reference: the scaled product of the token's activations and the word's rescaled row. -/
theorem zV_at (x : FVec Ideal S1x128x4096 .f32) (xs : FVec Ideal S1x128 .f32) (w : FVec Ideal S32000x4096 .f32) (s : FVec Ideal S250x32 .f32) (t : Fin 128) (v : Fin 32000) :
    zV x xs w s (ix3 (0 : Fin 1) t v) = (∑ K : Fin 4096, x (ix3 (0 : Fin 1) t K) * (w (ix2 v K) * s (ix2 (⟨v.val / 128, by omega⟩ : Fin 250) (⟨K.val / 128, by omega⟩ : Fin 32))) : EReal) * xs (ix2 (0 : Fin 1) t) := by
  pointwise [zV]

/-- A shifted logit of the reference. -/
theorem subV_at (Z : FVec Ideal S1x128x32000 .f32) (M : FVec Ideal S1x128 .f32) (t : Fin 128) (v : Fin 32000) :
    subV Z M (ix3 (0 : Fin 1) t v) = Z (ix3 (0 : Fin 1) t v) - M (ix2 (0 : Fin 1) t) := by
  pointwise [subV]

/-- The constant minus infinity. -/
theorem const_bot : (constant S_ .f32 0xFF800000#32 : FVec Ideal S_ .f32) = fun _ => (⊥ : EReal) := funext fun _ => neg_inf

/-- The row maximum is unchanged by minus infinity. -/
theorem topV_at (M : FVec Ideal S1x128 .f32) (j : S1x128.Idx) : topV M j = M j := by
  unfold topV
  rw [const_bot]
  show max (⊥ : EReal) (M j) = M j
  exact max_eq_right bot_le

/-- The maximum along an axis, from minus infinity, of an array of real numbers is a real number. -/
theorem max_real {s t u : Shape} {a : Fin s.rank} (x : FVec Ideal s .f32) (init : FVec Ideal u .f32) (h' : s.ReducesTo [a] t) (h : s.Reduces [a] t)
    (hn : 0 < s.size a) (hu : 0 < u.numel) (hi : init (Shape.Idx.first hu) = (⊥ : EReal)) (hx : ∀ i, ∃ r : ℝ, x i = (r : EReal)) (j : t.Idx) :
    ∃ M : ℝ, Host.reduce (FloatOps.maximumf (F := Ideal) (φ := .f32)) x init h' hu j = (M : EReal) := by
  haveI : Nonempty (Fin (s.size a)) := ⟨⟨0, hn⟩⟩
  obtain ⟨M, hM⟩ := fold_max_real (fun k => x (h.lift j k)) (fun k => hx _)
  refine ⟨M, ?_⟩
  rw [Host.reduce_eq_fold_single (FloatOps.maximumf (F := Ideal) (φ := .f32)) x init h' h hu j, hi]
  exact hM

/-- The row maximum of real logits is a real number. -/
theorem mxV_real (Z : FVec Ideal S1x128x32000 .f32) (h : ∀ i, ∃ r : ℝ, Z i = (r : EReal)) (j : S1x128.Idx) : ∃ M : ℝ, mxV Z j = (M : EReal) := by
  unfold mxV
  exact max_real Z _ reducesTo_S1x128x32000_S1x128_d2 ⟨reducesTo_S1x128x32000_S1x128_d2.1, by decide, reducesTo_S1x128x32000_S1x128_d2.2⟩ (by decide) h_S_ neg_inf h j

/-- A log-probability of the reference from the shifted logits. -/
theorem lpV_read (Z : FVec Ideal S1x128x32000 .f32) (t : Fin 128) (v : Fin 32000) :
    lpV Z (ix3 (0 : Fin 1) t v) = shV Z (ix3 (0 : Fin 1) t v) - Ideal.log (∑ x : Fin 32000, Ideal.exp (shV Z (ix3 (0 : Fin 1) t x))) := by
  pointwise [lpV]

/-- The entropy read at a token. -/
theorem entV_read (Lp : FVec Ideal S1x128x32000 .f32) (t : Fin 128) :
    entV Lp (ix2 (0 : Fin 1) t) = -∑ x : Fin 32000, Ideal.exp (Lp (ix3 (0 : Fin 1) t x)) * Lp (ix3 (0 : Fin 1) t x) := by
  pointwise [entV]

/-- A log-probability with the entropy added. -/
theorem devV_read (Lp : FVec Ideal S1x128x32000 .f32) (t : Fin 128) (v : Fin 32000) :
    devV Lp (ix3 (0 : Fin 1) t v) = Lp (ix3 (0 : Fin 1) t v) + entV Lp (ix2 (0 : Fin 1) t) := by
  pointwise [devV]

/-- The variance read at a token. -/
theorem varV_read (Lp : FVec Ideal S1x128x32000 .f32) (t : Fin 128) :
    varV Lp (ix2 (0 : Fin 1) t) = ∑ x : Fin 32000, Ideal.exp (Lp (ix3 (0 : Fin 1) t x)) * (devV Lp (ix3 (0 : Fin 1) t x) * devV Lp (ix3 (0 : Fin 1) t x)) := by
  pointwise [varV]

/-- The logarithm of a sum of exponentials of real numbers shifted by a real number, as an extended real. -/
theorem log_sum {ι : Type} [Fintype ι] [Nonempty ι] (z : ι → ℝ) (f : ι → EReal) (M : ℝ) (h : ∀ v, f v = ((z v - M : ℝ) : EReal)) (v : ι) :
    f v - Ideal.log (∑ x, Ideal.exp (f x)) = ((z v - Stat.lse z : ℝ) : EReal) := by
  have e : (∑ x, Ideal.exp (f x)) = ((∑ x, Real.exp (z x - M) : ℝ) : EReal) := by
    rw [coe_sum]; exact Finset.sum_congr rfl fun x _ => by rw [h, exp_coe]
  rw [e, log_coe _ (tot_shift_pos z M), log_shift, h, ← EReal.coe_sub]
  congr 1; ring

/-- The entropy of real logits from their log-probabilities. -/
theorem ent_sum {ι : Type} [Fintype ι] [Nonempty ι] (z : ι → ℝ) (f : ι → EReal) (h : ∀ v, f v = ((z v - Stat.lse z : ℝ) : EReal)) :
    -∑ x, Ideal.exp (f x) * f x = ((Stat.entropy z : ℝ) : EReal) := by
  have e : (∑ x, Ideal.exp (f x) * f x) = ((∑ x, Real.exp (z x - Stat.lse z) * (z x - Stat.lse z) : ℝ) : EReal) := by
    rw [coe_sum]; exact Finset.sum_congr rfl fun x _ => by rw [h, exp_coe, ← EReal.coe_mul]
  rw [e, ← EReal.coe_neg, entropy_eq]

/-- The variance of real logits from their log-probabilities. -/
theorem var_sum {ι : Type} [Fintype ι] [Nonempty ι] (z : ι → ℝ) (f d : ι → EReal) (h : ∀ v, f v = ((z v - Stat.lse z : ℝ) : EReal))
    (hd : ∀ v, d v = ((z v - Stat.lse z + Stat.entropy z : ℝ) : EReal)) :
    ∑ x, Ideal.exp (f x) * (d x * d x) = ((Stat.variance z : ℝ) : EReal) := by
  rw [← variance_eq, coe_sum]
  refine Finset.sum_congr rfl fun x _ => ?_
  rw [h, hd, exp_coe, ← EReal.coe_mul, ← EReal.coe_mul, pow_two]

section stats
variable (Z Lp : FVec Ideal S1x128x32000 .f32) (z : Fin 128 → Fin 32000 → ℝ)

/-- The reference's log-probabilities of real logits. -/
theorem lpV_at (h : ∀ t v, Z (ix3 (0 : Fin 1) t v) = (z t v : ℝ)) (t : Fin 128) (v : Fin 32000) :
    lpV Z (ix3 (0 : Fin 1) t v) = ((z t v - Stat.lse (z t) : ℝ) : EReal) := by
  have hr : ∀ i, ∃ r : ℝ, Z i = (r : EReal) := by
    intro i
    obtain ⟨a, b, d, rfl⟩ : ∃ (a : Fin 1) (b : Fin 128) (d : Fin 32000), i = ix3 a b d := ⟨i 0, i 1, i 2, eq_ix3 i⟩
    obtain rfl : a = 0 := Subsingleton.elim _ _
    exact ⟨_, h b d⟩
  obtain ⟨M, hM⟩ := mxV_real Z hr (ix2 (0 : Fin 1) t)
  have hs : ∀ v, shV Z (ix3 (0 : Fin 1) t v) = ((z t v - M : ℝ) : EReal) := by
    intro v
    unfold shV
    rw [subV_at, topV_at, hM, h, ← EReal.coe_sub]
  rw [lpV_read]
  exact log_sum (z t) (fun v => shV Z (ix3 (0 : Fin 1) t v)) M hs v

variable (h : ∀ t v, Lp (ix3 (0 : Fin 1) t v) = ((z t v - Stat.lse (z t) : ℝ) : EReal))
include h

/-- The reference's entropy. -/
theorem entV_at (t : Fin 128) : entV Lp (ix2 (0 : Fin 1) t) = ((Stat.entropy (z t) : ℝ) : EReal) := by
  rw [entV_read]
  exact ent_sum (z t) (fun v => Lp (ix3 (0 : Fin 1) t v)) (h t)

/-- The reference's variance. -/
theorem varV_at (t : Fin 128) : varV Lp (ix2 (0 : Fin 1) t) = ((Stat.variance (z t) : ℝ) : EReal) := by
  have hd : ∀ v, devV Lp (ix3 (0 : Fin 1) t v) = ((z t v - Stat.lse (z t) + Stat.entropy (z t) : ℝ) : EReal) := by
    intro v
    rw [devV_read, entV_at Lp z h, h, ← EReal.coe_add]
  rw [varV_read]
  exact var_sum (z t) (fun v => Lp (ix3 (0 : Fin 1) t v)) (fun v => devV Lp (ix3 (0 : Fin 1) t v)) (h t) hd
end stats

/-- A word below 32000 is not negative as a signed number. -/
theorem toInt_of_lt (a : BitVec 32) (h : a.toNat < 32000) : a.toInt = (a.toNat : ℤ) := BitVec.toInt_eq_toNat_of_lt (by omega)

/-- The signed comparison of a word below 32000 with zero. -/
theorem slt_zero (a : BitVec 32) (h : a.toNat < 32000) : IntOp.cmpi .slt a 0#32 = 0#1 := by
  have : BitVec.slt a 0#32 = false := by
    rw [← Bool.not_eq_true, BitVec.slt_iff_toInt_lt, toInt_of_lt a h, show (0#32 : BitVec 32).toInt = 0 from by decide]; omega
  simp only [IntOp.cmpi, this]; rfl

/-- A word below 32000 is at least zero. -/
theorem sge_zero (a : BitVec 32) (h : a.toNat < 32000) : IntOp.cmpi .sge a 0#32 = 1#1 := by
  have : BitVec.sle 0#32 a = true := by
    rw [BitVec.sle_iff_toInt_le, toInt_of_lt a h, show (0#32 : BitVec 32).toInt = 0 from by decide]; omega
  simp only [IntOp.cmpi, this]; rfl

/-- A word below 32000 is at most 31999. -/
theorem sle_last (a : BitVec 32) (h : a.toNat < 32000) : IntOp.cmpi .sle a 31999#32 = 1#1 := by
  have : BitVec.sle a 31999#32 = true := by
    rw [BitVec.sle_iff_toInt_le, toInt_of_lt a h, show (31999#32 : BitVec 32).toInt = 31999 from by decide]; omega
  simp only [IntOp.cmpi, this]; rfl

/-- A target below 32000 stays as it is. -/
theorem wrapV_at (tg : IVec S1x128x7 32) (t : Fin 128) (q : Fin 7) (h : (tg (ix3 (0 : Fin 1) t q)).toNat < 32000) : wrapV tg (ix3 t q (0 : Fin 1)) = tg (ix3 (0 : Fin 1) t q) := by
  pointwise [wrapV]
  rw [slt_zero _ h]; rfl

/-- A target below 32000 names a word. -/
theorem okV_at (I : IVec S128x7x1 32) (h : ∀ i, (I i).toNat < 32000) (t : Fin 128) (q : Fin 7) : okV I (ix2 t q) = 1#1 := by
  unfold okV
  refine Host.reduce_andi_one _ _ _ _ _ rfl fun i => ?_
  pointwise
  rw [sge_zero _ (h i), sle_last _ (h i)]; rfl

/-- The gather at an index: the operand at the token's row and the word's column. -/
theorem gather_at (x : FVec Ideal S1x128x32000 .f32) (I : IVec S128x7x1 32) (t : Fin 128) (q : Fin 7) (v : Fin 32000) (hv : min (I (ix3 t q (0 : Fin 1))).toInt.toNat 31999 = v.val) :
    Host.gather gather_S1x128x32000_S128x7x1_S1x128x7_0_2_1_0_2_2_111 x I (ix3 (0 : Fin 1) t q) = x (ix3 (0 : Fin 1) t v) := by
  set D := gather_S1x128x32000_S128x7x1_S1x128x7_0_2_1_0_2_2_111 with hD
  unfold Host.gather
  congr 1
  funext a
  fin_cases a
  · exact Subsingleton.elim (α := Fin 1) _ _
  · refine Fin.ext ?_
    show D.start (ix3 (0 : Fin 1) t q) I 1 + D.batchCoord (ix3 (0 : Fin 1) t q) 1 + D.offCoord (ix3 (0 : Fin 1) t q) 1 = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ D.operandBatchingDims from List.mem_singleton.mpr rfl)]
    rfl
  · refine Fin.ext ?_
    show D.start (ix3 (0 : Fin 1) t q) I 2 + D.batchCoord (ix3 (0 : Fin 1) t q) 2 + D.offCoord (ix3 (0 : Fin 1) t q) 2 = v.val
    rw [GatherDims.batchCoord_eq_zero _ _ _ (fun h => by simp [hD, gather_S1x128x32000_S128x7x1_S1x128x7_0_2_1_0_2_2_111] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ D.startIndexMap from List.mem_singleton.mpr rfl)]
    have hsi : D.siIdx (ix3 (0 : Fin 1) t q) ⟨List.idxOf (2 : Fin 3) D.startIndexMap,
        List.idxOf_lt_length_iff.2 (List.mem_singleton.mpr rfl)⟩ = ix3 t q (0 : Fin 1) := by
      funext b; refine Fin.ext ?_
      match b with
      | ⟨0, _⟩ => rfl
      | ⟨1, _⟩ => rfl
      | ⟨2, _⟩ => rfl
    rw [hsi]
    exact hv

/-- The reference's log-probability of a target. -/
theorem tlpV_at (Lp : FVec Ideal S1x128x32000 .f32) (tg : IVec S1x128x7 32) (h : ∀ i, (tg i).toNat < 32000) (t : Fin 128) (q : Fin 7) :
    tlpV Lp tg (ix3 (0 : Fin 1) t q) = Lp (ix3 (0 : Fin 1) t ⟨(tg (ix3 (0 : Fin 1) t q)).toNat, h _⟩) := by
  have hw : ∀ i, (wrapV tg i).toNat < 32000 := by
    intro i
    obtain ⟨a, b, d, rfl⟩ : ∃ (a : Fin 128) (b : Fin 7) (d : Fin 1), i = ix3 a b d := ⟨i 0, i 1, i 2, eq_ix3 i⟩
    obtain rfl : d = 0 := Subsingleton.elim _ _
    rw [wrapV_at tg a b (h _)]; exact h _
  have ho := okV_at (wrapV tg) hw t q
  have hlt := h (ix3 (0 : Fin 1) t q)
  have hg := gather_at Lp (wrapV tg) t q ⟨(tg (ix3 (0 : Fin 1) t q)).toNat, h _⟩ (by
    rw [wrapV_at tg t q (h _), BitVec.toInt_eq_toNat_of_lt (by omega)]
    show min (Int.toNat ((tg (ix3 (0 : Fin 1) t q)).toNat : ℤ)) 31999 = (tg (ix3 (0 : Fin 1) t q)).toNat
    omega)
  rw [← hg]
  unfold tlpV
  have hb : broadcastInDim S1x128x7 ![1, 2] bcast_S128x7_S1x128x7_1_2 (okV (wrapV tg)) (ix3 (0 : Fin 1) t q) = 1#1 := by
    rw [← ho]; pointwise
  show Scalar.select (broadcastInDim S1x128x7 ![1, 2] bcast_S128x7_S1x128x7_1_2 (okV (wrapV tg)) (ix3 (0 : Fin 1) t q)) _ _ = _
  rw [hb]
  rfl

end Cert.ReferenceIdeal.Value

end
-- ==== Proof.PI.RunA.lean ====
module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first branch is taken: the grid coordinate is the first. -/
abbrev condFirst (i : grid0.Coords) : Prop := (Scalar.cmpi .ne (Scalar.extui (Scalar.cmpi .eq (BitVec.ofNat 32 (i 0).val) 0#32)) 0#32) = 1#1
/-- The body's second branch is taken: the grid coordinate is the last. -/
abbrev condLast (i : grid0.Coords) : Prop := k0_cond2 i = 1#1

set_option maxHeartbeats 12000000 in
/-- The body's run at the first grid point: the body initializes the activation scratch and the running statistics, then folds in five vocabulary tiles. The witness lists the pieces each written buffer ends with. -/
noncomputable def runA (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : condFirst i) (hc1 : ¬condLast i)
    (x0 : Vec F S250x32 .f32) (x1 : Vec F S128x7 .i32) (x2 : Vec F S128x4096 .fp8e4m3) (x3 : Vec F S128x1 .f32) (x4 : Vec F S128x7 .i32) (x5 : Vec F S1280x4096 .fp8e4m3) (xz : Vec F S32000x128 .f32) :
    Σ' (Lxb : List (View.Piece (Elt F) S64x2x4096 .bf16)), Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (xb : Vec F S64x2x4096 .bf16) (xg : Vec F S896x128 .f32) (xm : Vec F S128x256 .f32) (xs : Vec F S128x256 .f32) (xa : Vec F S128x256 .f32) (xv : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ (∃ f, arg10.view.loc (c : Thread nD τ) ↦[arg10.view.set]{fullShare} arg10.view.writes (Elt F) f Lxb) ∗ (arg11.view.loc (c : Thread nD τ) ↦[arg11.view.set]{fullShare} arg11.view.writes (Elt F) (harg11.unread xz) Lxz) ∗ owns (c : Thread nD τ) arg12 fullShare xg ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun y6 y7 y8 xb xg xm xs xa xv E K => ?run⟩
  case run =>
    simp only [cc0_lm_head_entropy_eq_skeleton]; unfold cc0_lm_head_entropy_skel
    simp only [k0_part94_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexact H10
    isplitl [H11]
    · iexists _; isplitr; · ipureintro; exact harg12.read_unread _
      iexact H11
    isplitl [H12]
    · iexists _; iexact H12
    isplitl [H13]
    · iexists _; iexact H13
    isplitl [H14]
    · iexists _; iexact H14
    iexists _; iexact H15

end Cert.KernelIdeal.Gen

end
-- ==== Proof.PI.RunB.lean ====
module

public import proofs.«01_k».proof.Proof.Gen.KernelIdeal.Frame
public import proofs.«01_k».proof.Proof.Gen.KernelIdeal.Loops
public import proofs.«01_k».proof.Proof.PI.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 12000000 in
/-- The body's run at a grid point that is neither the first nor the last: the body folds five vocabulary tiles into the running statistics. The witness lists the pieces each written buffer ends with. -/
noncomputable def runB (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : ¬condFirst i) (hc1 : ¬condLast i)
    (x0 : Vec F S250x32 .f32) (x1 : Vec F S128x7 .i32) (x2 : Vec F S128x4096 .fp8e4m3) (x3 : Vec F S128x1 .f32) (x4 : Vec F S128x7 .i32) (x5 : Vec F S1280x4096 .fp8e4m3) (xb : Vec F S64x2x4096 .bf16) (xz : Vec F S32000x128 .f32) (xm : Vec F S128x256 .f32) (xs : Vec F S128x256 .f32) (xa : Vec F S128x256 .f32) (xv : Vec F S128x256 .f32) :
    Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (xg : Vec F S896x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ (arg11.view.loc (c : Thread nD τ) ↦[arg11.view.set]{fullShare} arg11.view.writes (Elt F) (harg11.unread xz) Lxz) ∗ owns (c : Thread nD τ) arg12 fullShare xg ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun y6 y7 y8 xg E K => ?run⟩
  case run =>
    simp only [cc0_lm_head_entropy_eq_skeleton]; unfold cc0_lm_head_entropy_skel
    simp only [k0_part94_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexact H10
    isplitl [H11]
    · iexists _; isplitr; · ipureintro; exact harg12.read_unread _
      iexact H11
    isplitl [H12]
    · iexists _; iexact H12
    isplitl [H13]
    · iexists _; iexact H13
    isplitl [H14]
    · iexists _; iexact H14
    iexists _; iexact H15

end Cert.KernelIdeal.Gen

end
-- ==== Proof.PI.Loop.lean ====
module

public import proofs.«01_k».proof.Proof.PI.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The row of the logit scratch that the gather reads for the word `v` on trip `k`, as the kernel computes it. -/
abbrev rowOff (k : Fin k0_t1_loop.trips) (v : BitVec 32) : Fin 2 → Nat := k0_off35 k v

/-- The loop runs over the 128 rows. -/
theorem trips_eq : k0_t1_loop.trips = 128 := by decide

/-- The row read for a target in range, as a natural number. -/
theorem rowOff_eq (k : Fin k0_t1_loop.trips) (v : BitVec 32) (hv : v.toNat < 32000) : rowOff k v = ![v.toNat / 128 * 128 + k.val, 0] := by
  have hk : k.val < 128 := trips_eq ▸ k.isLt
  have e : (Scalar.indexCast (Scalar.addi (Scalar.muli (Scalar.shrui v 7#32) 128#32) (Scf.iv 0#32 1#32 k.val)) : Index).toNat = v.toNat / 128 * 128 + k.val := by
    have e1 : (Scalar.shrui v 7#32).toNat = v.toNat / 128 := by
      simp [Scalar.shrui, IntOp.shrui, Nat.shiftRight_eq_div_pow]
    have e2 : (Scalar.muli (Scalar.shrui v 7#32) 128#32).toNat = v.toNat / 128 * 128 := by
      show (Scalar.shrui v 7#32 * 128#32).toNat = _
      rw [BitVec.toNat_mul, e1]; show v.toNat / 128 * 128 % 2 ^ 32 = _; omega
    have e3 : (Scf.iv 0#32 1#32 k.val).toNat = k.val := by
      simp [Scf.iv]; omega
    show (Scalar.muli (Scalar.shrui v 7#32) 128#32 + Scf.iv 0#32 1#32 k.val).toNat = _
    rw [BitVec.toNat_add, e2, e3]; omega
  show ![_, 0] = _
  exact congrArg (fun n : Nat => (![n, 0] : Fin 2 → Nat)) e

/-- The row read for a target in range lies in the logit scratch. -/
theorem rowOff_inb (k : Fin k0_t1_loop.trips) (v : BitVec 32) (hv : v.toNat < 32000) : ∀ a, rowOff k v a + S1x128.size a ≤ S32000x128.size a := by
  have hk : k.val < 128 := trips_eq ▸ k.isLt
  rw [rowOff_eq k v hv]
  intro a; fin_cases a
  · show v.toNat / 128 * 128 + k.val + 1 ≤ 32000; omega
  · show 0 + 128 ≤ 128; omega

/-! The body's check before each of its seven gathers holds when the word it read is in range. -/
theorem chk1_of_lt (i : grid0.Coords) (k : Fin k0_t1_loop.trips) (v : BitVec 32) (hv : v.toNat < 32000) : k0_chk1 i k v := by
  unfold k0_chk1; intro _; exact rowOff_inb k v hv
theorem chk2_of_lt (i : grid0.Coords) (k : Fin k0_t1_loop.trips) (v : BitVec 32) (hv : v.toNat < 32000) : k0_chk2 i k v := by
  unfold k0_chk2; intro _; exact rowOff_inb k v hv
theorem chk3_of_lt (i : grid0.Coords) (k : Fin k0_t1_loop.trips) (v : BitVec 32) (hv : v.toNat < 32000) : k0_chk3 i k v := by
  unfold k0_chk3; intro _; exact rowOff_inb k v hv
theorem chk4_of_lt (i : grid0.Coords) (k : Fin k0_t1_loop.trips) (v : BitVec 32) (hv : v.toNat < 32000) : k0_chk4 i k v := by
  unfold k0_chk4; intro _; exact rowOff_inb k v hv
theorem chk5_of_lt (i : grid0.Coords) (k : Fin k0_t1_loop.trips) (v : BitVec 32) (hv : v.toNat < 32000) : k0_chk5 i k v := by
  unfold k0_chk5; intro _; exact rowOff_inb k v hv
theorem chk6_of_lt (i : grid0.Coords) (k : Fin k0_t1_loop.trips) (v : BitVec 32) (hv : v.toNat < 32000) : k0_chk6 i k v := by
  unfold k0_chk6; intro _; exact rowOff_inb k v hv
theorem chk7_of_lt (i : grid0.Coords) (k : Fin k0_t1_loop.trips) (v : BitVec 32) (hv : v.toNat < 32000) : k0_chk7 i k v := by
  unfold k0_chk7; intro _; exact rowOff_inb k v hv

/-- Target words in range. -/
abbrev Words (F : FTy → Type) [FloatOps F] : Type := { X : Vec F S128x7 .i32 // ∀ y, (show BitVec 32 from X y).toNat < 32000 }

set_option maxHeartbeats 4000000 in
/-- One trip of the gather loop: the pieces it writes to the gather scratch. -/
noncomputable def trip (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (k : Fin k0_t1_loop.trips) :
    { L : List (View.Piece (Elt F) S896x128 .f32) //
      ∀ (g : Buf (Elt F) (arg12.view.loc (c : Thread nD τ))) (E : Set ℕ) (K : Unit → sProp 𝕄),
        iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} g) ∗ (iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} arg12.view.writes (Elt F) g L)) -∗ K ⟨⟩))
          ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 k ⟨⟩) K } := by
  have rd : ∀ (r : Rect S128x7) (y : r.shape.Idx), (show BitVec 32 from arg2.view.readAt (Elt F) r.toLoadRect (harg2.unread X.1) y).toNat < 32000 := fun r y => by
    simp only [View.readAt_apply, Memref.IsWhole.read_unread]; exact X.2 _
  refine ⟨?_, fun g E K => ?run⟩
  case run =>
    unfold k0_t1_body
    simp only [k0_part1_eq_skeleton, k0_part2_eq_skeleton]
    iintro ⟨H2, H11, H12, Hk⟩
    sl_exec (disch := (first | with_reducible refine chk1_of_lt _ _ _ ?_ | with_reducible refine chk2_of_lt _ _ _ ?_ | with_reducible refine chk3_of_lt _ _ _ ?_ | with_reducible refine chk4_of_lt _ _ _ ?_ | with_reducible refine chk5_of_lt _ _ _ ?_ | with_reducible refine chk6_of_lt _ _ _ ?_ | with_reducible refine chk7_of_lt _ _ _ ?_); exact rd _ _)
    sl_step
    iapply Hk
    isplitl [H2]; · iexact H2
    isplitl [H11]; · iexact H11
    iexact H12

/-- What the gather scratch holds before trip `n`. -/
noncomputable def gAt (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) : ℕ → Buf (Elt F) (arg12.view.loc (c : Thread nD τ))
  | 0 => g0
  | n + 1 => if h : n < k0_t1_loop.trips then arg12.view.writes (Elt F) (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 n) (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz ⟨n, h⟩).1 else gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 n

theorem gAt_succ (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) (k : Fin k0_t1_loop.trips) :
    gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 (k.val + 1) = arg12.view.writes (Elt F) (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 k.val) (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz k).1 := by
  rw [gAt.eq_2]; exact dif_pos k.isLt

set_option warn.classDefReducibility false in
/-- The gather loop's invariant: the targets and the logits unchanged, the gather scratch as the trips so far left it. -/
@[sl_loop] def loopInv (c : Dev nD) (E : Set ℕ) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 where
  inv k _ := iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 k))
  step k acc := by
    iintro ⟨H2, H11, H12⟩
    iapply (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz k).2
    isplitl [H2]; · iexact H2
    isplitl [H11]; · iexact H11
    isplitl [H12]; · iexact H12
    iintro ⟨H2, H11, H12⟩
    rw [gAt_succ]
    isplitl [H2]; · iexact H2
    isplitl [H11]; · iexact H11
    iexact H12

end Cert.KernelIdeal.Gen

end
-- ==== Proof.PI.RunC.lean ====
module

public import proofs.«01_k».proof.Proof.Gen.KernelIdeal.Frame
public import proofs.«01_k».proof.Proof.Gen.KernelIdeal.Loops
public import proofs.«01_k».proof.Proof.PI.Loop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 12000000 in
/-- The body's run at the last grid point. The witness lists the pieces each written buffer ends with. -/
noncomputable def runC (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x2x4096 .bf16) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : ¬condFirst i) (hc1 : condLast i)
    (x0 : Vec F S250x32 .f32) (x1 : Words F) (x2 : Vec F S128x4096 .fp8e4m3) (x3 : Vec F S128x1 .f32) (x4 : Vec F S128x7 .i32) (x5 : Vec F S1280x4096 .fp8e4m3) (xb : Vec F S64x2x4096 .bf16) (xz : Vec F S32000x128 .f32) (xg : Vec F S896x128 .f32) (xm : Vec F S128x256 .f32) (xs : Vec F S128x256 .f32) (xa : Vec F S128x256 .f32) (xv : Vec F S128x256 .f32) :
    Σ' (Ly6 : List (View.Piece (Elt F) S128x1 .f32)), Σ' (Ly7 : List (View.Piece (Elt F) S128x1 .f32)), Σ' (Ly8 : List (View.Piece (Elt F) S128x7 .f32)), Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (E : Set ℕ) (K : PUnit → sProp 𝕄),
        iprop(owns (c : Thread nD τ) arg1 fullShare x0 ∗ owns (c : Thread nD τ) arg2 fullShare x1.1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1.1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f Ly6) ∗ (∃ f, arg8.view.loc (c : Thread nD τ) ↦[arg8.view.set]{fullShare} arg8.view.writes (Elt F) f Ly7) ∗ (∃ f, arg9.view.loc (c : Thread nD τ) ↦[arg9.view.set]{fullShare} arg9.view.writes (Elt F) f Ly8) ∗ owns (c : Thread nD τ) arg10 fullShare xb ∗ (arg11.view.loc (c : Thread nD τ) ↦[arg11.view.set]{fullShare} arg11.view.writes (Elt F) (harg11.unread xz) Lxz) ∗ (∃ f, arg12.view.loc (c : Thread nD τ) ↦[arg12.view.set]{fullShare} f) ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun y6 y7 y8 E K => ?run⟩
  case run =>
    simp only [cc0_lm_head_entropy_eq_skeleton]; unfold cc0_lm_head_entropy_skel
    simp only [k0_part94_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; isplitr; · ipureintro; exact harg10.read_unread _
      iexact H9
    isplitl [H10]
    · iexact H10
    isplitl [H11]
    · iexists _; iexact H11
    isplitl [H12]
    · iexists _; iexact H12
    isplitl [H13]
    · iexists _; iexact H13
    isplitl [H14]
    · iexists _; iexact H14
    iexists _; iexact H15

end Cert.KernelIdeal.Gen

end
-- ==== Proof.PI.Ops.lean ====
module

public import proofs.«01_k».proof.Proof.PI.RunA
public import proofs.«01_k».proof.Proof.PI.RunB
public import proofs.«01_k».proof.Proof.PI.RunC
public import Idealize.ShloMosaic.Lib.VecWindow

@[expose] public section

set_option maxRecDepth 16384

noncomputable section

namespace Cert.KernelIdeal.Gen

open Idealize.ShloMosaic Idealize.ShloMosaic.TcCoe Idealize.SL.Sem

variable {F : FTy → Type} [FloatOps F]

/-- One block product of a column tile: 256 columns of the activations against a 256 x 256 piece of the rescaled weight,
    added to the accumulator. -/
def step (acc : FVec F S128x256 .f32) (w : Fin 2 → Vec F S128x256 .fp8e4m3) (s : Fin 2 → Fin 2 → Elt F .f32) (b : Vec F S64x2x256 .bf16) :
    FVec F S128x256 .f32 :=
  k0_pay37 acc (k0_pay34 (w 0) (s 0 0) (s 0 1)) (k0_pay35 (w 1)) (k0_pay36 (w 1) (s 1 0)) (s 1 1) b

/-- A column tile of the logits: sixteen block products and the row scale. -/
def zTile (W : Fin 16 → Fin 2 → Vec F S128x256 .fp8e4m3) (S : Fin 16 → Fin 2 → Fin 2 → Elt F .f32) (B : Fin 16 → Vec F S64x2x256 .bf16)
    (xs : FVec F S128x1 .f32) : FVec F S128x256 .f32 :=
  mulf (step (step (step (step (step (step (step (step (step (step (step (step (step (step (step (step k0_pay33
    (W 0) (S 0) (B 0)) (W 1) (S 1) (B 1)) (W 2) (S 2) (B 2)) (W 3) (S 3) (B 3)) (W 4) (S 4) (B 4)) (W 5) (S 5) (B 5))
    (W 6) (S 6) (B 6)) (W 7) (S 7) (B 7)) (W 8) (S 8) (B 8)) (W 9) (S 9) (B 9)) (W 10) (S 10) (B 10)) (W 11) (S 11) (B 11))
    (W 12) (S 12) (B 12)) (W 13) (S 13) (B 13)) (W 14) (S 14) (B 14)) (W 15) (S 15) (B 15))
    (broadcastTo S128x256 xs broadcasts_S128x1_S128x256)

/-- The new running maximum. -/
def mNew (z m : FVec F S128x256 .f32) : FVec F S128x256 .f32 := maximumf m z
/-- The change of the running maximum, zero where there was none yet. -/
def dNew (z m : FVec F S128x256 .f32) : FVec F S128x256 .f32 :=
  select (cmpf .oeq m (broadcast S128x256 (Scalar.ofBits .f32 0xFF800000#32))) (broadcast S128x256 (Scalar.ofBits .f32 0x00000000#32)) (subf m (mNew z m))
/-- The new sum of exponentials. -/
def sNew (z m s : FVec F S128x256 .f32) : FVec F S128x256 .f32 :=
  k0_pay106 z (mNew z m) (exp (dNew z m)) s
/-- The new first moment. -/
def aNew (z m s a : FVec F S128x256 .f32) : FVec F S128x256 .f32 :=
  k0_pay107 z (mNew z m) (dNew z m) (exp (dNew z m)) s a
/-- The new second moment. -/
def bNew (z m s a b : FVec F S128x256 .f32) : FVec F S128x256 .f32 :=
  k0_pay108 z (mNew z m) (dNew z m) (exp (dNew z m)) s a b

section reads
variable (i : grid0.Coords) (arg1 : Memref sig .tc .smem S250x32 .f32) (harg1 : arg1.IsWhole) (arg4 : Memref sig .tc .vmem S128x1 .f32) (harg4 : arg4.IsWhole)
  (arg6 : Memref sig .tc .vmem S1280x4096 .fp8e4m3) (harg6 : arg6.IsWhole) (arg10 : Memref sig .tc .vmem S64x2x4096 .bf16) (harg10 : arg10.IsWhole)
  (x0 : Vec F S250x32 .f32) (x3 : Vec F S128x1 .f32) (x5 : Vec F S1280x4096 .fp8e4m3) (xb : Vec F S64x2x4096 .bf16)

theorem wInb (j : Fin 5) (kt : Fin 16) (h : Fin 2) : ∀ a, (![256 * j.val + 128 * h.val, 256 * kt.val] : Fin 2 → ℕ) a + S128x256.size a ≤ S1280x4096.size a := by
  intro a; fin_cases a <;> simp <;> omega
theorem sInb (j : Fin 5) (kt : Fin 16) (h q : Fin 2) : ∀ a, (![10 * (i 0).val + 2 * j.val + h.val, 2 * kt.val + q.val] : Fin 2 → ℕ) a + S1x1.size a ≤ S250x32.size a := by
  have : (i 0).val < 25 := (i 0).isLt
  intro a; fin_cases a <;> simp <;> omega
theorem bInb (kt : Fin 16) : ∀ a, (![0, 0, 256 * kt.val] : Fin 3 → ℕ) a + S64x2x256.size a ≤ S64x2x4096.size a := by
  intro a; fin_cases a <;> simp <;> omega

/-- The word the kernel computes for a row of the scale table. -/
def sWord (j : Fin 5) (h : Fin 2) : BitVec 32 :=
  Scalar.indexCast (Scalar.addi (Scalar.addi (Scalar.muli (BitVec.ofNat 32 (i 0).val) 10#32) (BitVec.ofNat 32 (2 * j.val))) (BitVec.ofNat 32 h.val))
theorem sWord_toNat (j : Fin 5) (h : Fin 2) : (sWord i j h).toNat = 10 * (i 0).val + 2 * j.val + h.val := by
  have : (i 0).val < 25 := (i 0).isLt
  show ((BitVec.ofNat 32 (i 0).val * 10#32 + BitVec.ofNat 32 (2 * j.val)) + BitVec.ofNat 32 h.val).toNat = _
  simp only [BitVec.toNat_add, BitVec.toNat_mul, BitVec.toNat_ofNat]
  omega
theorem sInb' (j : Fin 5) (kt : Fin 16) (h q : Fin 2) : ∀ a, (![(sWord i j h).toNat, 2 * kt.val + q.val] : Fin 2 → ℕ) a + S1x1.size a ≤ S250x32.size a := by
  rw [sWord_toNat]; exact sInb i j kt h q

/-- The reads of a tile, as the program states them. -/
def rW (j : Fin 5) (kt : Fin 16) (h : Fin 2) : Vec F S128x256 .fp8e4m3 :=
  View.readAt (Elt F) arg6.view (Rect.unit (s := S1280x4096) ![256 * j.val + 128 * h.val, 256 * kt.val] S128x256.size (wInb j kt h)).toLoadRect (harg6.unread x5)
def rS (j : Fin 5) (kt : Fin 16) (h q : Fin 2) : Elt F .f32 :=
  View.readAt (Elt F) arg1.view (Rect.unit (s := S250x32) ![(sWord i j h).toNat, 2 * kt.val + q.val] S1x1.size (sInb' i j kt h q)).toLoadRect (harg1.unread x0) (Shape.Idx.first (show 0 < S1x1.numel by decide))
def rB (kt : Fin 16) : Vec F S64x2x256 .bf16 :=
  View.readAt (Elt F) arg10.view (Rect.unit (s := S64x2x4096) ![0, 0, 256 * kt.val] S64x2x256.size (bInb kt)).toLoadRect (harg10.unread xb)
def rX : Vec F S128x1 .f32 :=
  View.readAt (Elt F) arg4.view (Rect.unit (s := S128x1) ![0, 0] S128x1.size inb_S128x1_S128x1_0_0).toLoadRect (harg4.unread x3)
/-- Column tile `j` of the logits at a grid point, from the program's reads (the activations' pieces `B` apart). -/
def rZ (B : Fin 16 → Vec F S64x2x256 .bf16) (j : Fin 5) : FVec F S128x256 .f32 :=
  zTile (rW arg6 harg6 x5 j) (rS i arg1 harg1 x0 j) B (k0_pay32 (rX arg4 harg4 x3))
/-- The activations' pieces as the first point reads them: off what it has just stored. -/
def rBA (arg10 : Memref sig .tc .vmem S64x2x4096 .bf16) (arg3 : Memref sig .tc .vmem S128x4096 .fp8e4m3) (harg3 : arg3.IsWhole) (x2 : Vec F S128x4096 .fp8e4m3) (kt : Fin 16) : Vec F S64x2x256 .bf16 :=
  arg10.view.readCov [⟨Rect.unit ![0, 0, 0] S64x2x4096.size inb_S64x2x4096_S64x2x4096_0_0_0, k0_pay31 (View.readAt (Elt F) arg3.view (Rect.unit (s := S128x4096) ![0, 0] S128x4096.size inb_S128x4096_S128x4096_0_0).toLoadRect (harg3.unread x2))⟩]
    (Rect.unit (s := S64x2x4096) ![0, 0, 256 * kt.val] S64x2x256.size (bInb kt)).toLoadRect
theorem zInb (j : Fin 5) (h : Fin 2) : ∀ a, (![(Scalar.muli (sWord i j h) 128#32).toNat, 0] : Fin 2 → ℕ) a + S128x128.size a ≤ S32000x128.size a := by
  have h1 : (i 0).val < 25 := (i 0).isLt
  have h2 : (Scalar.muli (sWord i j h) 128#32).toNat = 128 * (10 * (i 0).val + 2 * j.val + h.val) := by
    show ((sWord i j h) * 128#32).toNat = _
    rw [BitVec.toNat_mul, sWord_toNat]
    show (_ * 128) % 4294967296 = _
    omega
  rw [h2]
  intro a; fin_cases a <;> simp <;> omega
/-- Half `h` of a column tile, as it is stored. -/
def zHalf (z : FVec F S128x256 .f32) (h : Fin 2) : FVec F S128x128 .f32 :=
  match h with
  | 0 => shapeCast S128x128 (extractStridedSlice S128x128 ![0, 0] z slices_S128x256_o0_0_S128x128) shapeCasts_S128x128_S128x128
  | 1 => shapeCast S128x128 (extractStridedSlice S128x128 ![0, 128] z slices_S128x256_o0_128_S128x128) shapeCasts_S128x128_S128x128
/-- The store of one half of a column tile. -/
def zPiece (Z : Fin 5 → FVec F S128x256 .f32) (k : Fin 5 × Fin 2) : View.Piece (Elt F) S32000x128 .f32 :=
  ⟨Rect.unit (s := S32000x128) ![(Scalar.muli (sWord i k.1 k.2) 128#32).toNat, 0] S128x128.size (zInb i k.1 k.2), zHalf (Z k.1) k.2⟩
/-- The halves in the order of their stores, the last first. -/
def zKeys : List (Fin 5 × Fin 2) := [(4, 1), (4, 0), (3, 1), (3, 0), (2, 1), (2, 0), (1, 1), (1, 0), (0, 1), (0, 0)]
end reads

/-- The running maximum and the three running sums. -/
structure St (F : FTy → Type) where
  m : FVec F S128x256 .f32
  s : FVec F S128x256 .f32
  a : FVec F S128x256 .f32
  b : FVec F S128x256 .f32

/-- One column tile's update of the running values. -/
def St.next (z : FVec F S128x256 .f32) (x : St F) : St F :=
  ⟨k0_pay109 (mNew z x.m), sNew z x.m x.s, aNew z x.m x.s x.a, bNew z x.m x.s x.a x.b⟩

/-- The five updates of a grid point. -/
def St.next5 (Z : Fin 5 → FVec F S128x256 .f32) (x : St F) : St F :=
  St.next (Z 4) (St.next (Z 3) (St.next (Z 2) (St.next (Z 1) (St.next (Z 0) x))))

/-- The running values before the first tile. -/
def St.init : St F := ⟨k0_pay27, k0_pay28, k0_pay29, k0_pay30⟩

/-- The running values as a point reads them off the buffers it is handed. -/
def rSt (arg13 : Memref sig .tc .vmem S128x256 .f32) (harg13 : arg13.IsWhole) (arg14 : Memref sig .tc .vmem S128x256 .f32) (harg14 : arg14.IsWhole)
    (arg15 : Memref sig .tc .vmem S128x256 .f32) (harg15 : arg15.IsWhole) (arg16 : Memref sig .tc .vmem S128x256 .f32) (harg16 : arg16.IsWhole)
    (xm xs xa xv : Vec F S128x256 .f32) : St F :=
  ⟨View.readAt (Elt F) arg13.view (Rect.unit (s := S128x256) ![0, 0] S128x256.size inb_S128x256_S128x256_0_0).toLoadRect (harg13.unread xm),
   View.readAt (Elt F) arg14.view (Rect.unit (s := S128x256) ![0, 0] S128x256.size inb_S128x256_S128x256_0_0).toLoadRect (harg14.unread xs),
   View.readAt (Elt F) arg15.view (Rect.unit (s := S128x256) ![0, 0] S128x256.size inb_S128x256_S128x256_0_0).toLoadRect (harg15.unread xa),
   View.readAt (Elt F) arg16.view (Rect.unit (s := S128x256) ![0, 0] S128x256.size inb_S128x256_S128x256_0_0).toLoadRect (harg16.unread xv)⟩

end Cert.KernelIdeal.Gen

end
-- ==== Proof.PI.PiecesC.lean ====
module

public import proofs.«01_k».proof.Proof.PI.Ops

@[expose] public section

set_option maxRecDepth 16384

noncomputable section

namespace Cert.KernelIdeal.Gen

open Idealize.ShloMosaic Idealize.ShloMosaic.TcCoe

variable {F : FTy → Type} [FloatOps F]

variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (x0 : Vec F S250x32 .f32) (x1 : Words F) (x2 : Vec F S128x4096 .fp8e4m3) (x3 : Vec F S128x1 .f32) (x4 : Vec F S128x7 .i32) (x5 : Vec F S1280x4096 .fp8e4m3)
  (xb : Vec F S64x2x4096 .bf16) (xz : Vec F S32000x128 .f32) (xg : Vec F S896x128 .f32) (xm xs xa xv : Vec F S128x256 .f32)

set_option maxHeartbeats 4000000 in
/-- The running values that the last point reads back after its column tile 0. -/
theorem runC_st1 : (⟨runC.sl.v1464 c i arg1 harg1 arg4 harg4 arg6 harg6 arg10 harg10 arg13 harg13 x0 x3 x5 xb xm, runC.sl.v1472 c i arg1 harg1 arg4 harg4 arg6 harg6 arg10 harg10 arg13 harg13 arg14 harg14 x0 x3 x5 xb xm xs, runC.sl.v1473 c i arg1 harg1 arg4 harg4 arg6 harg6 arg10 harg10 arg13 harg13 arg14 harg14 arg15 harg15 x0 x3 x5 xb xm xs xa, runC.sl.v1474 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 0) (rSt arg13 harg13 arg14 harg14 arg15 harg15 arg16 harg16 xm xs xa xv) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the last point reads back after its column tile 1. -/
theorem runC_st2 : (⟨runC.sl.v2214 c i arg1 harg1 arg4 harg4 arg6 harg6 arg10 harg10 arg13 harg13 x0 x3 x5 xb xm, runC.sl.v2222 c i arg1 harg1 arg4 harg4 arg6 harg6 arg10 harg10 arg13 harg13 arg14 harg14 x0 x3 x5 xb xm xs, runC.sl.v2223 c i arg1 harg1 arg4 harg4 arg6 harg6 arg10 harg10 arg13 harg13 arg14 harg14 arg15 harg15 x0 x3 x5 xb xm xs xa, runC.sl.v2224 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 1) (⟨runC.sl.v1464 c i arg1 harg1 arg4 harg4 arg6 harg6 arg10 harg10 arg13 harg13 x0 x3 x5 xb xm, runC.sl.v1472 c i arg1 harg1 arg4 harg4 arg6 harg6 arg10 harg10 arg13 harg13 arg14 harg14 x0 x3 x5 xb xm xs, runC.sl.v1473 c i arg1 harg1 arg4 harg4 arg6 harg6 arg10 harg10 arg13 harg13 arg14 harg14 arg15 harg15 x0 x3 x5 xb xm xs xa, runC.sl.v1474 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the last point reads back after its column tile 2. -/
theorem runC_st3 : (⟨runC.sl.v2964 c i arg1 harg1 arg4 harg4 arg6 harg6 arg10 harg10 arg13 harg13 x0 x3 x5 xb xm, runC.sl.v2972 c i arg1 harg1 arg4 harg4 arg6 harg6 arg10 harg10 arg13 harg13 arg14 harg14 x0 x3 x5 xb xm xs, runC.sl.v2973 c i arg1 harg1 arg4 harg4 arg6 harg6 arg10 harg10 arg13 harg13 arg14 harg14 arg15 harg15 x0 x3 x5 xb xm xs xa, runC.sl.v2974 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 2) (⟨runC.sl.v2214 c i arg1 harg1 arg4 harg4 arg6 harg6 arg10 harg10 arg13 harg13 x0 x3 x5 xb xm, runC.sl.v2222 c i arg1 harg1 arg4 harg4 arg6 harg6 arg10 harg10 arg13 harg13 arg14 harg14 x0 x3 x5 xb xm xs, runC.sl.v2223 c i arg1 harg1 arg4 harg4 arg6 harg6 arg10 harg10 arg13 harg13 arg14 harg14 arg15 harg15 x0 x3 x5 xb xm xs xa, runC.sl.v2224 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the last point reads back after its column tile 3. -/
theorem runC_st4 : (⟨runC.sl.v3714 c i arg1 harg1 arg4 harg4 arg6 harg6 arg10 harg10 arg13 harg13 x0 x3 x5 xb xm, runC.sl.v3722 c i arg1 harg1 arg4 harg4 arg6 harg6 arg10 harg10 arg13 harg13 arg14 harg14 x0 x3 x5 xb xm xs, runC.sl.v3723 c i arg1 harg1 arg4 harg4 arg6 harg6 arg10 harg10 arg13 harg13 arg14 harg14 arg15 harg15 x0 x3 x5 xb xm xs xa, runC.sl.v3724 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 3) (⟨runC.sl.v2964 c i arg1 harg1 arg4 harg4 arg6 harg6 arg10 harg10 arg13 harg13 x0 x3 x5 xb xm, runC.sl.v2972 c i arg1 harg1 arg4 harg4 arg6 harg6 arg10 harg10 arg13 harg13 arg14 harg14 x0 x3 x5 xb xm xs, runC.sl.v2973 c i arg1 harg1 arg4 harg4 arg6 harg6 arg10 harg10 arg13 harg13 arg14 harg14 arg15 harg15 x0 x3 x5 xb xm xs xa, runC.sl.v2974 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the last point reads back after its column tile 4. -/
theorem runC_st5 : (⟨runC.sl.v3758 c i arg1 harg1 arg4 harg4 arg6 harg6 arg10 harg10 arg13 harg13 x0 x3 x5 xb xm, runC.sl.v3759 c i arg1 harg1 arg4 harg4 arg6 harg6 arg10 harg10 arg13 harg13 arg14 harg14 x0 x3 x5 xb xm xs, runC.sl.v3760 c i arg1 harg1 arg4 harg4 arg6 harg6 arg10 harg10 arg13 harg13 arg14 harg14 arg15 harg15 x0 x3 x5 xb xm xs xa, runC.sl.v3761 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 4) (⟨runC.sl.v3714 c i arg1 harg1 arg4 harg4 arg6 harg6 arg10 harg10 arg13 harg13 x0 x3 x5 xb xm, runC.sl.v3722 c i arg1 harg1 arg4 harg4 arg6 harg6 arg10 harg10 arg13 harg13 arg14 harg14 x0 x3 x5 xb xm xs, runC.sl.v3723 c i arg1 harg1 arg4 harg4 arg6 harg6 arg10 harg10 arg13 harg13 arg14 harg14 arg15 harg15 x0 x3 x5 xb xm xs xa, runC.sl.v3724 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

/-- The running values after the five column tiles of the last point. -/
theorem runC_five : (⟨runC.sl.v3758 c i arg1 harg1 arg4 harg4 arg6 harg6 arg10 harg10 arg13 harg13 x0 x3 x5 xb xm, runC.sl.v3759 c i arg1 harg1 arg4 harg4 arg6 harg6 arg10 harg10 arg13 harg13 arg14 harg14 x0 x3 x5 xb xm xs, runC.sl.v3760 c i arg1 harg1 arg4 harg4 arg6 harg6 arg10 harg10 arg13 harg13 arg14 harg14 arg15 harg15 x0 x3 x5 xb xm xs xa, runC.sl.v3761 c i arg1 harg1 arg4 harg4 arg6 harg6 arg10 harg10 arg13 harg13 arg14 harg14 arg15 harg15 arg16 harg16 x0 x3 x5 xb xm xs xa xv⟩ : St F) = St.next5 (rZ i arg1 harg1 arg4 harg4 arg6 harg6 x0 x3 x5 (rB arg10 harg10 xb)) (rSt arg13 harg13 arg14 harg14 arg15 harg15 arg16 harg16 xm xs xa xv) := by
  rw [runC_st5, runC_st4, runC_st3, runC_st2, runC_st1]; rfl

set_option maxHeartbeats 4000000 in
/-- The logits the last point stores: two halves for each column tile. -/
theorem runC_z (hc0 : ¬condFirst i) (hc1 : condLast i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.2.2.1 = zKeys.map (zPiece i (rZ i arg1 harg1 arg4 harg4 arg6 harg6 x0 x3 x5 (rB arg10 harg10 xb))) := rfl

set_option maxHeartbeats 4000000 in
/-- The entropies the last point stores. -/
theorem runC_ent (hc0 : ¬condFirst i) (hc1 : condLast i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).1 = [⟨Rect.unit (s := S128x1) ![0, 0] S128x1.size inb_S128x1_S128x1_0_0, k0_pay17 (St.next5 (rZ i arg1 harg1 arg4 harg4 arg6 harg6 x0 x3 x5 (rB arg10 harg10 xb)) (rSt arg13 harg13 arg14 harg14 arg15 harg15 arg16 harg16 xm xs xa xv)).m (St.next5 (rZ i arg1 harg1 arg4 harg4 arg6 harg6 x0 x3 x5 (rB arg10 harg10 xb)) (rSt arg13 harg13 arg14 harg14 arg15 harg15 arg16 harg16 xm xs xa xv)).s (St.next5 (rZ i arg1 harg1 arg4 harg4 arg6 harg6 x0 x3 x5 (rB arg10 harg10 xb)) (rSt arg13 harg13 arg14 harg14 arg15 harg15 arg16 harg16 xm xs xa xv)).a⟩] := by
  rw [← runC_five (c := c)]; rfl

set_option maxHeartbeats 4000000 in
/-- The variances the last point stores. -/
theorem runC_var (hc0 : ¬condFirst i) (hc1 : condLast i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.1 = [⟨Rect.unit (s := S128x1) ![0, 0] S128x1.size inb_S128x1_S128x1_0_0, k0_pay18 (St.next5 (rZ i arg1 harg1 arg4 harg4 arg6 harg6 x0 x3 x5 (rB arg10 harg10 xb)) (rSt arg13 harg13 arg14 harg14 arg15 harg15 arg16 harg16 xm xs xa xv)).m (St.next5 (rZ i arg1 harg1 arg4 harg4 arg6 harg6 x0 x3 x5 (rB arg10 harg10 xb)) (rSt arg13 harg13 arg14 harg14 arg15 harg15 arg16 harg16 xm xs xa xv)).s (St.next5 (rZ i arg1 harg1 arg4 harg4 arg6 harg6 x0 x3 x5 (rB arg10 harg10 xb)) (rSt arg13 harg13 arg14 harg14 arg15 harg15 arg16 harg16 xm xs xa xv)).a (St.next5 (rZ i arg1 harg1 arg4 harg4 arg6 harg6 x0 x3 x5 (rB arg10 harg10 xb)) (rSt arg13 harg13 arg14 harg14 arg15 harg15 arg16 harg16 xm xs xa xv)).b⟩] := by
  rw [← runC_five (c := c)]; rfl

end Cert.KernelIdeal.Gen

end
-- ==== Proof.PI.Gather.lean ====
module

public import proofs.«01_k».proof.Proof.PI.PiecesC

@[expose] public section

set_option maxRecDepth 16384

noncomputable section

namespace Cert.KernelIdeal.Gen

open Idealize.ShloMosaic Idealize.ShloMosaic.TcCoe

/-- The seven target columns in the order of their stores, the last first. -/
def qKeys : List (Fin 7) := [6, 5, 4, 3, 2, 1, 0]
theorem mem_qKeys (q : Fin 7) : q ∈ qKeys := by fin_cases q <;> decide

theorem tInb (k : Fin k0_t1_loop.trips) (q : Fin 7) : ∀ a, (![(Scalar.indexCast (Scf.iv 0#32 1#32 k.val) : BitVec 32).toNat, q.val] : Fin 2 → ℕ) a + S1x1.size a ≤ S128x7.size a := by
  have hk : k.val < 128 := trips_eq ▸ k.isLt
  have h : (Scalar.indexCast (Scf.iv 0#32 1#32 k.val) : BitVec 32).toNat = k.val := by
    show (0#32 + BitVec.ofNat 32 k.val * 1#32).toNat = _
    simp only [BitVec.toNat_add, BitVec.toNat_mul, BitVec.toNat_ofNat]; omega
  rw [h]; intro a; fin_cases a <;> simp <;> omega

/-- The row of the gather scratch for the `k`-th token's target column `q`, as the program computes it. -/
def gWord (k : Fin k0_t1_loop.trips) (q : Fin 7) : BitVec 32 := Scalar.indexCast (Scalar.addi (BitVec.ofNat 32 (128 * q.val)) (Scf.iv 0#32 1#32 k.val))
theorem gWord_toNat (k : Fin k0_t1_loop.trips) (q : Fin 7) : (gWord k q).toNat = 128 * q.val + k.val := by
  have hk : k.val < 128 := trips_eq ▸ k.isLt
  show (BitVec.ofNat 32 (128 * q.val) + (0#32 + BitVec.ofNat 32 k.val * 1#32)).toNat = _
  simp only [BitVec.toNat_add, BitVec.toNat_mul, BitVec.toNat_ofNat]; omega
theorem gInb (k : Fin k0_t1_loop.trips) (q : Fin 7) : ∀ a, (![(gWord k q).toNat, 0] : Fin 2 → ℕ) a + S1x128.size a ≤ S896x128.size a := by
  have hk : k.val < 128 := trips_eq ▸ k.isLt
  rw [gWord_toNat]; intro a; fin_cases a <;> simp <;> omega

variable {F : FTy → Type} [FloatOps F]

variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (hc1 : condLast i)

/-- The target word that trip `k` reads for column `q`. -/
def tWord (X : Words F) (k : Fin k0_t1_loop.trips) (q : Fin 7) : BitVec 32 :=
  View.readAt (Elt F) arg2.view (Rect.unit (s := S128x7) ![(Scalar.indexCast (Scf.iv 0#32 1#32 k.val) : BitVec 32).toNat, q.val] S1x1.size (tInb k q)).toLoadRect (harg2.unread X.1) (Shape.Idx.first (show 0 < S1x1.numel by decide))
theorem tWord_lt (X : Words F) (k : Fin k0_t1_loop.trips) (q : Fin 7) : (tWord arg2 harg2 X k q).toNat < 32000 := by
  unfold tWord; simp only [View.readAt_apply, Memref.IsWhole.read_unread]; exact X.2 _

/-- The store of trip `k` for column `q`: the row of logits that the target word names. -/
def gPiece (X : Words F) (fz : Buf (Elt F) (arg11.view.loc (c : Thread nD τ))) (k : Fin k0_t1_loop.trips) (q : Fin 7) : View.Piece (Elt F) S896x128 .f32 :=
  ⟨Rect.unit (s := S896x128) ![(gWord k q).toNat, 0] S1x128.size (gInb k q),
    k0_pay5 (View.readAt (Elt F) arg11.view (Rect.unit (s := S32000x128) (rowOff k (tWord arg2 harg2 X k q)) S1x128.size (rowOff_inb k _ (tWord_lt arg2 harg2 X k q))).toLoadRect fz)⟩

set_option maxHeartbeats 4000000 in
/-- One trip stores seven rows. -/
theorem trip_pieces (v3794 : FVec F S128x1 .f32) (c0 : BitVec 32) (X : Words F) (fz : Buf (Elt F) (arg11.view.loc (c : Thread nD τ))) (k : Fin k0_t1_loop.trips) :
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 v3794 c0 X fz k).1 = qKeys.map (gPiece c arg2 harg2 arg11 X fz k) := rfl

theorem cInb (q : Fin 7) : ∀ a, (![0, q.val] : Fin 2 → ℕ) a + S128x1.size a ≤ S128x7.size a := by
  intro a; fin_cases a <;> simp <;> omega
theorem rInb (q : Fin 7) : ∀ a, (![128 * q.val, 0] : Fin 2 → ℕ) a + S128x128.size a ≤ S896x128.size a := by
  intro a; fin_cases a <;> simp <;> omega

/-- The store of the log-probabilities of target column `q`. -/
def tPiece (lse : FVec F S128x1 .f32) (x4 : Vec F S128x7 .i32) (g : Buf (Elt F) (arg12.view.loc (c : Thread nD τ))) (q : Fin 7) : View.Piece (Elt F) S128x7 .f32 :=
  ⟨Rect.unit (s := S128x7) ![0, q.val] S128x1.size (cInb q),
    k0_pay21 lse (View.readAt (Elt F) arg5.view (Rect.unit (s := S128x7) ![0, q.val] S128x1.size (cInb q)).toLoadRect (harg5.unread x4))
      (View.readAt (Elt F) arg12.view (Rect.unit (s := S896x128) ![128 * q.val, 0] S128x128.size (rInb q)).toLoadRect g)⟩

set_option maxHeartbeats 4000000 in
/-- The log-probabilities that the last point stores: one column for each target. -/
theorem runC_tlp (x0 : Vec F S250x32 .f32) (x1 : Words F) (x2 : Vec F S128x4096 .fp8e4m3) (x3 : Vec F S128x1 .f32) (x4 : Vec F S128x7 .i32) (x5 : Vec F S1280x4096 .fp8e4m3)
  (xb : Vec F S64x2x4096 .bf16) (xz : Vec F S32000x128 .f32) (xg : Vec F S896x128 .f32) (xm xs xa xv : Vec F S128x256 .f32) (hc0 : ¬condFirst i) :
    ∃ v3794 g0, (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.2.1
      = qKeys.map (tPiece c arg5 harg5 arg12 (k0_pay19 (St.next5 (rZ i arg1 harg1 arg4 harg4 arg6 harg6 x0 x3 x5 (rB arg10 harg10 xb)) (rSt arg13 harg13 arg14 harg14 arg15 harg15 arg16 harg16 xm xs xa xv)).m (St.next5 (rZ i arg1 harg1 arg4 harg4 arg6 harg6 x0 x3 x5 (rB arg10 harg10 xb)) (rSt arg13 harg13 arg14 harg14 arg15 harg15 arg16 harg16 xm xs xa xv)).s) x4
          (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 v3794 0#32 x1 (arg11.view.writes (Elt F) (harg11.unread xz) (zKeys.map (zPiece i (rZ i arg1 harg1 arg4 harg4 arg6 harg6 x0 x3 x5 (rB arg10 harg10 xb))))) g0 k0_t1_loop.trips)) := by
  rw [← runC_five (c := c)]; exact ⟨_, _, rfl⟩

end Cert.KernelIdeal.Gen

end
-- ==== Proof.PI.Point.lean ====
module

public import proofs.«01_k».proof.Proof.PI.Gather
public import Idealize.ShloMosaic.Lib.Pointwise
public import Idealize.ShloMosaic.Lib.WholeRead
public import Idealize.ShloMosaic.Lib.Pipeline.ReadBack

@[expose] public section

set_option maxRecDepth 16384

noncomputable section

namespace Cert.KernelIdeal.Gen

open Idealize.ShloMosaic Idealize.ShloMosaic.TcCoe

/-- The activations as the first point stores them: row `2p + r` at position `(p, r)`. -/
theorem packed_at (x : Vec Ideal S128x4096 .fp8e4m3) (p : Fin 64) (r : Fin 2) (k : Fin 4096) :
    k0_pay31 (F := Ideal) x (ix3 p r k) = x (ix2 (⟨2 * p.val + r.val, by omega⟩ : Fin 128) k) := by
  pointwise [k0_pay31]
  fin_cases r <;> rfl

set_option maxHeartbeats 4000000 in
/-- One block product at an index. -/
theorem step_at (acc : FVec Ideal S128x256 .f32) (w : Fin 2 → Vec Ideal S128x256 .fp8e4m3) (s : Fin 2 → Fin 2 → Elt Ideal .f32)
    (b : Vec Ideal S64x2x256 .bf16) (t : Fin 128) (l : Fin 256) :
    step acc w s b (ix2 t l) = acc (ix2 t l) + ∑ k : Fin 256, (b (ix3 (⟨t.val / 2, by omega⟩ : Fin 64) (⟨t.val % 2, by omega⟩ : Fin 2) k) : EReal)
      * (w ⟨l.val / 128, by omega⟩ (ix2 (⟨l.val % 128, by omega⟩ : Fin 128) k) * s ⟨l.val / 128, by omega⟩ ⟨k.val / 128, by omega⟩) := by
  pointwise [step, k0_pay37, k0_pay34, k0_pay35, k0_pay36]
  rw [Fin.sum_univ_two_halves 128 128 rfl]
  have hb : ∀ (k : Fin 256), (if t.val % 2 = 0 then b (ix3 (⟨t.val / 2, by omega⟩ : Fin 64) 0 k) else b (ix3 (⟨t.val / 2, by omega⟩ : Fin 64) 1 k))
      = b (ix3 (⟨t.val / 2, by omega⟩ : Fin 64) (⟨t.val % 2, by omega⟩ : Fin 2) k) := by
    intro k
    rcases Nat.mod_two_eq_zero_or_one t.val with h | h <;> simp only [h] <;> rfl
  have hw : ∀ (k : Fin 256) (q : Fin 2), k.val / 128 = q.val → (if h : l.val < 128 then w 0 (ix2 (⟨l.val, h⟩ : Fin 128) k) * s 0 q else w 1 (ix2 (⟨l.val - 128, by omega⟩ : Fin 128) k) * s 1 q : EReal)
      = w ⟨l.val / 128, by omega⟩ (ix2 (⟨l.val % 128, by omega⟩ : Fin 128) k) * s ⟨l.val / 128, by omega⟩ ⟨k.val / 128, by omega⟩ := by
    intro k q hq
    have eq : (⟨k.val / 128, by omega⟩ : Fin 2) = q := Fin.ext hq
    rw [eq]
    split
    · have e1 : (⟨l.val / 128, by omega⟩ : Fin 2) = 0 := Fin.ext (by show l.val / 128 = 0; omega)
      have e2 : (⟨l.val % 128, by omega⟩ : Fin 128) = ⟨l.val, by omega⟩ := Fin.ext (by show l.val % 128 = l.val; omega)
      rw [e1, e2]
    · have e1 : (⟨l.val / 128, by omega⟩ : Fin 2) = 1 := Fin.ext (by show l.val / 128 = 1; omega)
      have e2 : (⟨l.val % 128, by omega⟩ : Fin 128) = ⟨l.val - 128, by omega⟩ := Fin.ext (by show l.val % 128 = l.val - 128; omega)
      rw [e1, e2]
  congr 1
  congr 1
  · refine Finset.sum_congr rfl fun x _ => ?_
    exact congrArg₂ (· * ·) (hb ⟨x.val, by omega⟩) (hw ⟨x.val, by omega⟩ 0 (by show x.val / 128 = 0; omega))
  · refine Finset.sum_congr rfl fun x _ => ?_
    exact congrArg₂ (· * ·) (hb ⟨128 + x.val, by omega⟩) (hw ⟨128 + x.val, by omega⟩ 1 (by show (128 + x.val) / 128 = 1; omega))

/-- Sixteen terms added one after another. -/
theorem sum16 {M : Type} [AddCommMonoid M] (f : Fin 16 → M) :
    ∑ k, f k = 0 + f 0 + f 1 + f 2 + f 3 + f 4 + f 5 + f 6 + f 7 + f 8 + f 9 + f 10 + f 11 + f 12 + f 13 + f 14 + f 15 := by
  simp only [Fin.sum_univ_castSucc, Fin.sum_univ_zero]; rfl

/-- A sum over 4096 columns, taken 256 at a time. -/
theorem sum_blocks {M : Type} [AddCommMonoid M] (f : Fin 4096 → M) :
    ∑ a : Fin 16, ∑ k : Fin 256, f ⟨256 * a.val + k.val, by omega⟩ = ∑ K, f K := by
  rw [← Fintype.sum_prod_type' (f := fun (a : Fin 16) (k : Fin 256) => f ⟨256 * a.val + k.val, by omega⟩)]
  refine Fintype.sum_equiv (finProdFinEquiv (m := 16) (n := 256)) _ _ fun x => congrArg f (Fin.ext ?_)
  show 256 * x.1.val + x.2.val = x.2.val + 256 * x.1.val
  omega

/-- The logit of token `t` and word `v`: the scaled product of the token's activations and the word's rescaled row. -/
def logit (X : Fin 128 → Fin 4096 → EReal) (XS : Fin 128 → EReal) (W : Fin 32000 → Fin 4096 → EReal) (S : Fin 250 → Fin 32 → EReal)
    (t : Fin 128) (v : Fin 32000) : EReal :=
  (∑ K : Fin 4096, X t K * (W v K * S ⟨v.val / 128, by omega⟩ ⟨K.val / 128, by omega⟩)) * XS t

set_option maxHeartbeats 4000000 in
/-- A column tile at an index. -/
theorem zTile_at (W : Fin 16 → Fin 2 → Vec Ideal S128x256 .fp8e4m3) (S : Fin 16 → Fin 2 → Fin 2 → Elt Ideal .f32) (B : Fin 16 → Vec Ideal S64x2x256 .bf16)
    (xs : FVec Ideal S128x1 .f32) (t : Fin 128) (l : Fin 256) :
    zTile W S B xs (ix2 t l) = (∑ a : Fin 16, ∑ k : Fin 256, (B a (ix3 (⟨t.val / 2, by omega⟩ : Fin 64) (⟨t.val % 2, by omega⟩ : Fin 2) k) : EReal)
      * (W a ⟨l.val / 128, by omega⟩ (ix2 (⟨l.val % 128, by omega⟩ : Fin 128) k) * S a ⟨l.val / 128, by omega⟩ ⟨k.val / 128, by omega⟩)) * xs (ix2 t (0 : Fin 1)) := by
  rw [sum16]
  have h0 : k0_pay33 (F := Ideal) (ix2 t l) = (0 : EReal) := by pointwise [k0_pay33]
  have hx : broadcastTo S128x256 xs broadcasts_S128x1_S128x256 (ix2 t l) = xs (ix2 t (0 : Fin 1)) := by pointwise
  show (_ : EReal) * _ = _
  refine congrArg₂ (· * ·) ?_ hx
  simp only [step_at, h0]

section
variable (i : grid0.Coords) (arg1 : Memref sig .tc .smem S250x32 .f32) (harg1 : arg1.IsWhole) (arg4 : Memref sig .tc .vmem S128x1 .f32) (harg4 : arg4.IsWhole)
  (arg6 : Memref sig .tc .vmem S1280x4096 .fp8e4m3) (harg6 : arg6.IsWhole) (arg10 : Memref sig .tc .vmem S64x2x4096 .bf16) (harg10 : arg10.IsWhole)
  (arg3 : Memref sig .tc .vmem S128x4096 .fp8e4m3) (harg3 : arg3.IsWhole)
  (x0 : Vec Ideal S250x32 .f32) (x2 : Vec Ideal S128x4096 .fp8e4m3) (x3 : Vec Ideal S128x1 .f32) (x5 : Vec Ideal S1280x4096 .fp8e4m3) (xb : Vec Ideal S64x2x4096 .bf16)

/-- A weight piece at an index. -/
theorem rW_at (j : Fin 5) (kt : Fin 16) (h : Fin 2) (a : Fin 128) (k : Fin 256) :
    rW arg6 harg6 x5 j kt h (ix2 a k) = x5 (ix2 (⟨256 * j.val + 128 * h.val + a.val, by omega⟩ : Fin 1280) (⟨256 * kt.val + k.val, by omega⟩ : Fin 4096)) := by
  unfold rW
  rw [Memref.IsWhole.readAt_unread]
  pointwise

/-- A scale word. -/
theorem rS_at (j : Fin 5) (kt : Fin 16) (h q : Fin 2) :
    rS i arg1 harg1 x0 j kt h q = x0 (ix2 (⟨10 * (i 0).val + 2 * j.val + h.val, by have : (i 0).val < 25 := (i 0).isLt; omega⟩ : Fin 250) (⟨2 * kt.val + q.val, by omega⟩ : Fin 32)) := by
  unfold rS
  rw [Memref.IsWhole.readAt_unread]
  refine congrArg x0 (funext fun a => Fin.ext ?_)
  fin_cases a
  · show (sWord i j h).toNat + 1 * 0 = _
    rw [sWord_toNat]; rfl
  · rfl

/-- The activation scales at an index. -/
theorem rX_at (t : Fin 128) : rX arg4 harg4 x3 (ix2 t (0 : Fin 1)) = x3 (ix2 t (0 : Fin 1)) := by
  unfold rX
  rw [Memref.IsWhole.readAt_unread]
  pointwise

/-- An activation piece at an index. -/
theorem rB_at (kt : Fin 16) (p : Fin 64) (r : Fin 2) (k : Fin 256) :
    rB arg10 harg10 xb kt (ix3 p r k) = xb (ix3 p r (⟨256 * kt.val + k.val, by omega⟩ : Fin 4096)) := by
  unfold rB
  rw [Memref.IsWhole.readAt_unread]
  pointwise

/-- An activation piece that the first point reads back, at an index. -/
theorem rBA_at (kt : Fin 16) (p : Fin 64) (r : Fin 2) (k : Fin 256) :
    rBA arg10 arg3 harg3 x2 kt (ix3 p r k) = x2 (ix2 (⟨2 * p.val + r.val, by omega⟩ : Fin 128) (⟨256 * kt.val + k.val, by omega⟩ : Fin 4096)) := by
  unfold rBA
  rw [View.readCov_fill]
  have hx : View.readAt (Elt Ideal) arg3.view (Rect.unit (s := S128x4096) ![0, 0] S128x4096.size inb_S128x4096_S128x4096_0_0).toLoadRect (harg3.unread x2) = x2 := by
    funext y; idx_vars y; rw [Memref.IsWhole.readAt_unread]; pointwise
  rw [hx]
  · refine Eq.trans ?_ (packed_at x2 p r ⟨256 * kt.val + k.val, by omega⟩)
    pointwise
  · intro a; fin_cases a <;> rfl

/-- A column tile of the point with coordinate `n`, from the arrays whose blocks the point holds. -/
theorem rZ_at (X : Fin 128 → Fin 4096 → EReal) (XS : Fin 128 → EReal) (W : Fin 32000 → Fin 4096 → EReal) (S : Fin 250 → Fin 32 → EReal)
    (h0 : ∀ a b, x0 (ix2 a b) = S a b) (h3 : ∀ t, x3 (ix2 t (0 : Fin 1)) = XS t)
    (h5 : ∀ (r : Fin 1280) k (hr : 1280 * (i 0).val + r.val < 32000), x5 (ix2 r k) = W ⟨1280 * (i 0).val + r.val, hr⟩ k)
    (B : Fin 16 → Vec Ideal S64x2x256 .bf16)
    (hB : ∀ (kt : Fin 16) (p : Fin 64) (r : Fin 2) (k : Fin 256), B kt (ix3 p r k) = X ⟨2 * p.val + r.val, by omega⟩ ⟨256 * kt.val + k.val, by omega⟩)
    (j : Fin 5) (t : Fin 128) (l : Fin 256) (hv : 1280 * (i 0).val + 256 * j.val + l.val < 32000) :
    rZ i arg1 harg1 arg4 harg4 arg6 harg6 x0 x3 x5 B j (ix2 t l) = logit X XS W S t ⟨1280 * (i 0).val + 256 * j.val + l.val, hv⟩ := by
  unfold rZ logit
  rw [zTile_at, ← sum_blocks]
  have hX : k0_pay32 (rX arg4 harg4 x3) (ix2 t (0 : Fin 1)) = XS t := by
    refine Eq.trans ?_ (h3 t)
    rw [← rX_at arg4 harg4 x3 t]
    pointwise [k0_pay32]
  rw [hX]
  refine congrArg (· * XS t) (Finset.sum_congr rfl fun a _ => Finset.sum_congr rfl fun k _ => ?_)
  rw [hB, rW_at, rS_at, h0, h5 _ _ (by show 1280 * (i 0).val + (256 * j.val + 128 * (l.val / 128) + l.val % 128) < 32000; omega)]
  refine congrArg₂ (· * ·) (congrArg (X · _) (Fin.ext (by show 2 * (t.val / 2) + t.val % 2 = t.val; omega))) (congrArg₂ (· * ·) (congrArg (W · _) (Fin.ext ?_)) (congrArg₂ S (Fin.ext ?_) (Fin.ext ?_)))
  · show 1280 * (i 0).val + (256 * j.val + 128 * (l.val / 128) + l.val % 128) = 1280 * (i 0).val + 256 * j.val + l.val
    omega
  · show 10 * (i 0).val + 2 * j.val + l.val / 128 = (1280 * (i 0).val + 256 * j.val + l.val) / 128
    omega
  · show 2 * a.val + k.val / 128 = (256 * a.val + k.val) / 128
    omega

/-- Half of a column tile at an index. -/
theorem zHalf_at (z : FVec Ideal S128x256 .f32) (h : Fin 2) (t : Fin 128) (l : Fin 128) :
    zHalf z h (ix2 t l) = z (ix2 t (⟨128 * h.val + l.val, by omega⟩ : Fin 256)) := by
  fin_cases h
  · show shapeCast S128x128 (extractStridedSlice S128x128 ![0, 0] z slices_S128x256_o0_0_S128x128) shapeCasts_S128x128_S128x128 (ix2 t l) = _
    pointwise
  · show shapeCast S128x128 (extractStridedSlice S128x128 ![0, 128] z slices_S128x256_o0_128_S128x128) shapeCasts_S128x128_S128x128 (ix2 t l) = _
    pointwise

theorem mem_zKeys (k : Fin 5 × Fin 2) : k ∈ zKeys := by
  obtain ⟨j, h⟩ := k; fin_cases j <;> fin_cases h <;> decide

/-- The logit scratch agrees with the logits `L` on its first `n` blocks of 128 words. -/
def ZInv (L : Fin 128 → Fin 32000 → EReal) (n : ℕ) (z : Vec Ideal S32000x128 .f32) : Prop :=
  ∀ (b : Fin 250) (t l : Fin 128), b.val < n → z (ix2 (⟨128 * b.val + t.val, by omega⟩ : Fin 32000) l) = L t ⟨128 * b.val + l.val, by omega⟩

/-- A point's stores extend the filled part of the logit scratch by ten blocks. -/
theorem zInv_step (L : Fin 128 → Fin 32000 → EReal) (Z : Fin 5 → FVec Ideal S128x256 .f32)
    (hZ : ∀ (j : Fin 5) (t : Fin 128) (l : Fin 256) (hv : 1280 * (i 0).val + 256 * j.val + l.val < 32000), Z j (ix2 t l) = L t ⟨1280 * (i 0).val + 256 * j.val + l.val, hv⟩)
    (arg11 : Memref sig .tc .vmem S32000x128 .f32) (harg11 : arg11.IsWhole) (xz : Vec Ideal S32000x128 .f32) (hz : ZInv L (10 * (i 0).val) xz) :
    ZInv L (10 * ((i 0).val + 1)) (arg11.view.read (Elt Ideal) (arg11.view.writes (Elt Ideal) (harg11.unread xz) (zKeys.map (zPiece i Z)))) := by
  have hi : (i 0).val < 25 := (i 0).isLt
  have hoff : ∀ k : Fin 5 × Fin 2, (Scalar.muli (sWord i k.1 k.2) 128#32).toNat = 128 * (10 * (i 0).val + 2 * k.1.val + k.2.val) := by
    intro k
    show ((sWord i k.1 k.2) * 128#32).toNat = _
    rw [BitVec.toNat_mul, sWord_toNat]
    show (_ * 128) % 4294967296 = _
    omega
  intro b t l hb
  by_cases hlt : b.val < 10 * (i 0).val
  · rw [View.read_writes_apply_of_forall_not_mem, Memref.IsWhole.read_unread]
    · exact hz b t l hlt
    · intro p hp
      obtain ⟨k, -, rfl⟩ := List.mem_map.mp hp
      refine Rect.not_mem_set_of_axis _ _ 0 _ 128 (hoff k) rfl rfl (Or.inl ?_)
      show 128 * b.val + t.val < _
      omega
  · set G : S32000x128.Idx → EReal := fun y => L ⟨(y 0).val % 128, by omega⟩ ⟨128 * ((y 0).val / 128) + (y 1).val, by have := (y 0).isLt; have := (y 1).isLt; simp at *; omega⟩ with hG
    rw [View.read_writes_apply_of_pieces (v := arg11.view) (f := harg11.unread xz) G]
    · show L _ _ = L _ _
      refine congrArg₂ L (Fin.ext ?_) (Fin.ext ?_)
      · show (128 * b.val + t.val) % 128 = t.val; omega
      · show 128 * ((128 * b.val + t.val) / 128) + l.val = 128 * b.val + l.val; omega
    · intro p hp x
      obtain ⟨k, -, rfl⟩ := List.mem_map.mp hp
      obtain ⟨x0, x1, rfl⟩ : ∃ (x0 : Fin 128) (x1 : Fin 128), x = ix2 x0 x1 := ⟨x 0, x 1, eq_ix2 x⟩
      have h2 := hoff k
      have hk1 : k.1.val < 5 := k.1.isLt
      have hk2 : k.2.val < 2 := k.2.isLt
      refine (zHalf_at (Z k.1) k.2 x0 x1).trans ((hZ _ _ _ (by show 1280 * (i 0).val + 256 * k.1.val + (128 * k.2.val + x1.val) < 32000; omega)).trans ?_)
      have e0 : ((zPiece i Z k).1.emb (ix2 x0 x1) 0).val = 128 * (10 * (i 0).val + 2 * k.1.val + k.2.val) + x0.val := by
        show (Scalar.muli (sWord i k.1 k.2) 128#32).toNat + 1 * x0.val = _
        rw [h2]; omega
      have e1 : ((zPiece i Z k).1.emb (ix2 x0 x1) 1).val = x1.val := by
        show 0 + 1 * x1.val = _
        omega
      refine congrArg₂ L (Fin.ext ?_) (Fin.ext ?_)
      · show x0.val = ((zPiece i Z k).1.emb (ix2 x0 x1) 0).val % 128
        rw [e0]; omega
      · show 1280 * (i 0).val + 256 * k.1.val + (128 * k.2.val + x1.val) = 128 * (((zPiece i Z k).1.emb (ix2 x0 x1) 0).val / 128) + ((zPiece i Z k).1.emb (ix2 x0 x1) 1).val
        rw [e0, e1]; omega
    · refine ⟨zPiece i Z (⟨(b.val - 10 * (i 0).val) / 2, by omega⟩, ⟨(b.val - 10 * (i 0).val) % 2, by omega⟩), List.mem_map.mpr ⟨_, mem_zKeys _, rfl⟩, ?_⟩
      have h2 := (hoff (⟨(b.val - 10 * (i 0).val) / 2, by omega⟩, ⟨(b.val - 10 * (i 0).val) % 2, by omega⟩))
      refine (LoadRect.mem_set _).mpr fun a => ?_
      fin_cases a
      · refine ⟨t.val, t.isLt, ?_⟩
        show 128 * b.val + t.val = (Scalar.muli (sWord i _ _) 128#32).toNat + 1 * t.val
        rw [h2]
        show 128 * b.val + t.val = 128 * (10 * (i 0).val + 2 * ((b.val - 10 * (i 0).val) / 2) + (b.val - 10 * (i 0).val) % 2) + 1 * t.val
        omega
      · refine ⟨l.val, l.isLt, ?_⟩
        show l.val = 0 + 1 * l.val
        omega
end

end Cert.KernelIdeal.Gen

end
-- ==== Proof.PI.Stats.lean ====
module

public import proofs.«01_k».proof.Proof.PI.Point
public import proofs.«01_k».proof.Proof.Math
public import proofs.«01_k».proof.Proof.Pre

@[expose] public section

set_option maxRecDepth 16384

noncomputable section

namespace Cert.KernelIdeal.Gen

open Idealize.ShloMosaic Idealize.ShloMosaic.TcCoe Cert.Stat

/-- The f32 pattern of two names 2. -/
theorem ofBits_two : Ideal.ofBits .f32 0x40000000#32 = ((2 : ℝ) : EReal) := by
  show Ideal.ieee 8 23 (0x40000000#32) = _
  unfold Ideal.ieee
  rw [if_neg (by decide), if_neg (by decide)]
  rw [show ((0x40000000#32 : BitVec 32).extractLsb' 23 8).toNat = 128 from by decide, show ((0x40000000#32 : BitVec 32).extractLsb' 0 23).toNat = 0 from by decide,
    show ((0x40000000#32 : BitVec 32).extractLsb' (8 + 23) 1 == 1#1) = false from by decide]
  congr 1
  norm_num

/-- The numbers lane `l` of token `t` meets: the logits 256 words apart. -/
def laneOf (z : Fin 128 → Fin 32000 → ℝ) (t : Fin 128) (l : Fin 256) (k : ℕ) : ℝ :=
  if h : 256 * k + l.val < 32000 then z t ⟨256 * k + l.val, h⟩ else 0

/-- Every lane has met its first `N` numbers. -/
def LInv (z : Fin 128 → Fin 32000 → ℝ) (N : ℕ) (x : St Ideal) : Prop :=
  ∀ (t : Fin 128) (l : Fin 256), Lane (laneOf z t l) N (x.m (ix2 t l)) (x.s (ix2 t l)) (x.a (ix2 t l)) (x.b (ix2 t l))

/-- Before the first tile no lane has met a number. -/
theorem LInv.init (z : Fin 128 → Fin 32000 → ℝ) : LInv z 0 St.init := by
  intro t l
  refine Or.inl ⟨rfl, ?_, ?_, ?_, ?_⟩ <;> unfold St.init
  · pointwise [k0_pay27]; exact Pre.ofBits_neg_inf
  · pointwise [k0_pay28]
  · pointwise [k0_pay29]
  · pointwise [k0_pay30]

/-- One tile more: every lane meets one number more. -/
theorem LInv.next {z : Fin 128 → Fin 32000 → ℝ} {N : ℕ} {x : St Ideal} (h : LInv z N x) (Z : FVec Ideal S128x256 .f32)
    (hZ : ∀ t l, Z (ix2 t l) = (laneOf z t l N : ℝ)) : LInv z (N + 1) (St.next Z x) := by
  intro t l
  have h1 := (h t l).next (hZ t l)
  have em : (St.next Z x).m (ix2 t l) = max (x.m (ix2 t l)) (Z (ix2 t l)) := by
    unfold St.next mNew; pointwise [k0_pay109]
  rw [em]
  convert h1 using 1
  · unfold St.next sNew dNew mNew; pointwise [k0_pay106, k0_pay103, k0_pay104, k0_pay105]; rw [Pre.ofBits_neg_inf]
  · unfold St.next aNew dNew mNew; pointwise [k0_pay107, k0_pay103, k0_pay104, k0_pay105]; rw [Pre.ofBits_neg_inf]
  · unfold St.next bNew dNew mNew; pointwise [k0_pay108, k0_pay103, k0_pay104, k0_pay105]; rw [Pre.ofBits_neg_inf, ofBits_two]

/-- A grid point: every lane meets five numbers more. -/
theorem LInv.next5 {z : Fin 128 → Fin 32000 → ℝ} {n : ℕ} {x : St Ideal} (h : LInv z (5 * n) x) (Z : Fin 5 → FVec Ideal S128x256 .f32)
    (hZ : ∀ j t l, Z j (ix2 t l) = (laneOf z t l (5 * n + j.val) : ℝ)) : LInv z (5 * (n + 1)) (St.next5 Z x) :=
  (((((h.next (Z 0) (hZ 0)).next (Z 1) (hZ 1)).next (Z 2) (hZ 2)).next (Z 3) (hZ 3)).next (Z 4) (hZ 4))

section finish
variable {z : Fin 128 → Fin 32000 → ℝ} {x : St Ideal} (h : LInv z 125 x) (t : Fin 128)
include h

/-- After the last tile: the row maximum of the reference points is a real number, and the three sums taken from it are those
    of all the logits of the token. -/
theorem LInv.sums : ∃ M : ℝ, Finset.fold max (⊥ : EReal) (fun l : Fin 256 => x.m (ix2 t l)) Finset.univ = M
    ∧ (∑ l : Fin 256, x.s (ix2 t l) * Ideal.exp (x.m (ix2 t l) - (M : EReal))) = ((∑ v, Real.exp (z t v - M) : ℝ) : EReal)
    ∧ (∑ l : Fin 256, (x.a (ix2 t l) + (x.m (ix2 t l) - (M : EReal)) * x.s (ix2 t l)) * Ideal.exp (x.m (ix2 t l) - (M : EReal)))
        = ((∑ v, Real.exp (z t v - M) * (z t v - M) : ℝ) : EReal)
    ∧ (∑ l : Fin 256, (x.b (ix2 t l) + (x.m (ix2 t l) - (M : EReal)) * (((2 : ℝ) : EReal) * x.a (ix2 t l) + (x.m (ix2 t l) - (M : EReal)) * x.s (ix2 t l)))
          * Ideal.exp (x.m (ix2 t l) - (M : EReal)))
        = ((∑ v, Real.exp (z t v - M) * (z t v - M) ^ 2 : ℝ) : EReal) := by
  have hl : ∀ l : Fin 256, ∃ M : ℝ, x.m (ix2 t l) = M ∧ x.s (ix2 t l) = ((∑ k ∈ Finset.range 125, Real.exp (laneOf z t l k - M) : ℝ) : EReal)
    ∧ x.a (ix2 t l) = ((∑ k ∈ Finset.range 125, Real.exp (laneOf z t l k - M) * (laneOf z t l k - M) : ℝ) : EReal)
    ∧ x.b (ix2 t l) = ((∑ k ∈ Finset.range 125, Real.exp (laneOf z t l k - M) * (laneOf z t l k - M) ^ 2 : ℝ) : EReal) := by
    intro l
    rcases h t l with h0 | h0
    · exact absurd h0.1 (by decide)
    · exact h0.2
  choose m hm hs ha hb using hl
  obtain ⟨M, hM⟩ := fold_max_real (fun l : Fin 256 => x.m (ix2 t l)) (fun l => ⟨m l, hm l⟩)
  have hz : ∀ (l : Fin 256) (k : Fin 125), laneOf z t l k.val = z t ⟨256 * k.val + l.val, by omega⟩ := by
    intro l k
    unfold laneOf
    rw [dif_pos (by omega)]
  have e : ∀ l, M = m l - (m l - M) := fun l => by ring
  refine ⟨M, hM, ?_, ?_, ?_⟩
  · rw [← sum_lanes (fun v => Real.exp (z t v - M)) (fun l k => Real.exp (laneOf z t l k - M)) (fun l k => by rw [hz]), coe_sum]
    refine Finset.sum_congr rfl fun l _ => ?_
    rw [hm, hs, ← EReal.coe_sub, exp_coe, ← EReal.coe_mul, shift_s, ← e l]
  · rw [← sum_lanes (fun v => Real.exp (z t v - M) * (z t v - M)) (fun l k => Real.exp (laneOf z t l k - M) * (laneOf z t l k - M)) (fun l k => by rw [hz]), coe_sum]
    refine Finset.sum_congr rfl fun l _ => ?_
    rw [hm, hs, ha, ← EReal.coe_sub, exp_coe, ← EReal.coe_mul, ← EReal.coe_add, ← EReal.coe_mul, shift_a, ← e l]
  · rw [← sum_lanes (fun v => Real.exp (z t v - M) * (z t v - M) ^ 2) (fun l k => Real.exp (laneOf z t l k - M) * (laneOf z t l k - M) ^ 2) (fun l k => by rw [hz]), coe_sum]
    refine Finset.sum_congr rfl fun l _ => ?_
    rw [hm, hs, ha, hb]
    simp only [← EReal.coe_sub, exp_coe, ← EReal.coe_mul, ← EReal.coe_add]
    rw [shift_b, ← e l]

/-- The logarithm of the sum of the exponentials, as the last point computes it. -/
theorem LInv.lse : k0_pay19 (F := Ideal) x.m x.s (ix2 t (0 : Fin 1)) = ((Stat.lse (z t) : ℝ) : EReal) := by
  obtain ⟨M, hM, hs, -, -⟩ := h.sums t
  pointwise [k0_pay19, k0_pay15, k0_pay14, k0_pay13, k0_pay12, k0_pay11]
  rw [Pre.ofBits_neg_inf, hM, hs, log_coe _ (tot_shift_pos _ _), log_shift, ← EReal.coe_add]
  congr 1; ring

/-- The entropy, as the last point computes it. -/
theorem LInv.entropy : k0_pay17 (F := Ideal) x.m x.s x.a (ix2 t (0 : Fin 1)) = ((Stat.entropy (z t) : ℝ) : EReal) := by
  obtain ⟨M, hM, hs, ha, -⟩ := h.sums t
  pointwise [k0_pay17, k0_pay16, k0_pay15, k0_pay14, k0_pay13, k0_pay12, k0_pay11]
  rw [Pre.ofBits_neg_inf, hM, hs, ha, log_coe _ (tot_shift_pos _ _), div_coe _ _ (tot_shift_pos _ _), log_shift, mean_shift, ← EReal.coe_sub]
  congr 1; unfold Stat.entropy; ring

/-- The variance, as the last point computes it. -/
theorem LInv.variance : k0_pay18 (F := Ideal) x.m x.s x.a x.b (ix2 t (0 : Fin 1)) = ((Stat.variance (z t) : ℝ) : EReal) := by
  obtain ⟨M, hM, hs, ha, hb⟩ := h.sums t
  pointwise [k0_pay18, k0_pay16, k0_pay15, k0_pay14, k0_pay13, k0_pay12, k0_pay11]
  rw [Pre.ofBits_neg_inf, ofBits_two, hM, hs, ha, hb, div_coe _ _ (tot_shift_pos _ _), div_coe _ _ (tot_shift_pos _ _), second_shift, mean_shift,
    ← EReal.coe_mul, ← EReal.coe_sub, ← EReal.coe_zero, max_coe]
  congr 1
  rw [show Stat.variance (z t) + (mean (z t) - M) ^ 2 - (mean (z t) - M) * (mean (z t) - M) = Stat.variance (z t) by ring]
  exact max_eq_left (variance_nonneg _)
end finish

end Cert.KernelIdeal.Gen

end
-- ==== Proof.PI.Target.lean ====
module

public import proofs.«01_k».proof.Proof.PI.Stats

@[expose] public section

set_option maxRecDepth 16384

noncomputable section

namespace Cert.KernelIdeal.Gen

open Idealize.ShloMosaic Idealize.ShloMosaic.TcCoe Cert.Stat

section
variable (c : Dev nD) (arg2 : Memref sig .tc .smem S128x7 .i32) (harg2 : arg2.IsWhole) (arg5 : Memref sig .tc .vmem S128x7 .i32) (harg5 : arg5.IsWhole)
  (arg11 : Memref sig .tc .vmem S32000x128 .f32) (arg12 : Memref sig .tc .vmem S896x128 .f32)
  (X : Words Ideal) (fz : Buf (Elt Ideal) (arg11.view.loc (c : Thread nD τ)))

/-- The target word of trip `k`, column `q`, is the target of token `k`. -/
theorem tWord_at (k : Fin k0_t1_loop.trips) (q : Fin 7) (t : Fin 128) (ht : t.val = k.val) : tWord arg2 harg2 X k q = X.1 (ix2 t q) := by
  unfold tWord
  rw [Memref.IsWhole.readAt_unread]
  refine congrArg X.1 (funext fun a => Fin.ext ?_)
  have h : (Scalar.indexCast (Scf.iv 0#32 1#32 k.val) : BitVec 32).toNat = k.val := by
    show (0#32 + BitVec.ofNat 32 k.val * 1#32).toNat = _
    have hk : k.val < 128 := trips_eq ▸ k.isLt
    simp only [BitVec.toNat_add, BitVec.toNat_mul, BitVec.toNat_ofNat]; omega
  fin_cases a
  · show (Scalar.indexCast (Scf.iv 0#32 1#32 k.val) : BitVec 32).toNat + 1 * 0 = t.val
    omega
  · show q.val + 1 * 0 = q.val
    omega

/-- The row that trip `k` stores for column `q`. -/
theorem gPiece_at (k : Fin k0_t1_loop.trips) (q : Fin 7) (t l : Fin 128) (ht : t.val = k.val) (x : S1x128.Idx) (hx : (x 1).val = l.val)
    (hv : (X.1 (ix2 t q)).toNat / 128 * 128 + t.val < 32000) :
    (gPiece c arg2 harg2 arg11 X fz k q).2 x = arg11.view.read (Elt Ideal) fz (ix2 (⟨(X.1 (ix2 t q)).toNat / 128 * 128 + t.val, hv⟩ : Fin 32000) l) := by
  obtain ⟨x0, x1, rfl⟩ : ∃ (x0 : Fin 1) (x1 : Fin 128), x = ix2 x0 x1 := ⟨x 0, x 1, eq_ix2 x⟩
  obtain rfl : x0 = 0 := Subsingleton.elim _ _
  have hp : (gPiece c arg2 harg2 arg11 X fz k q).2 (ix2 (0 : Fin 1) x1) = View.readAt (Elt Ideal) arg11.view (Rect.unit (s := S32000x128) (rowOff k (tWord arg2 harg2 X k q)) S1x128.size (rowOff_inb k _ (tWord_lt arg2 harg2 X k q))).toLoadRect fz (ix2 (0 : Fin 1) x1) := by
    unfold gPiece
    pointwise [k0_pay5]
  rw [hp, View.readAt_apply]
  refine congrArg (arg11.view.read (Elt Ideal) fz) (funext fun a => Fin.ext ?_)
  have ho := rowOff_eq k _ (tWord_lt arg2 harg2 X k q)
  rw [tWord_at arg2 harg2 X k q t ht] at ho
  have e : ∀ a, (LoadRect.idx (Rect.unit (s := S32000x128) (rowOff k (tWord arg2 harg2 X k q)) S1x128.size (rowOff_inb k _ (tWord_lt arg2 harg2 X k q))).toLoadRect (ix2 (0 : Fin 1) x1) a).val = rowOff k (tWord arg2 harg2 X k q) a + 1 * (ix2 (0 : Fin 1) x1 a).val := fun a => rfl
  rw [e, tWord_at arg2 harg2 X k q t ht, ho]
  fin_cases a
  · show (X.1 (ix2 t q)).toNat / 128 * 128 + k.val + 1 * 0 = (X.1 (ix2 t q)).toNat / 128 * 128 + t.val
    omega
  · show 0 + 1 * x1.val = l.val
    have : x1.val = l.val := hx
    omega

/-- Before trip `n` the gather scratch holds, for the first `n` tokens, the rows of logits that their targets name. -/
def GInv (g : Buf (Elt Ideal) (arg12.view.loc (c : Thread nD τ))) (n : ℕ) : Prop :=
  ∀ (q : Fin 7) (t l : Fin 128) (hv : (X.1 (ix2 t q)).toNat / 128 * 128 + t.val < 32000), t.val < n →
    arg12.view.read (Elt Ideal) g (ix2 (⟨128 * q.val + t.val, by omega⟩ : Fin 896) l)
      = arg11.view.read (Elt Ideal) fz (ix2 (⟨(X.1 (ix2 t q)).toNat / 128 * 128 + t.val, hv⟩ : Fin 32000) l)

/-- One trip more. -/
theorem gInv_step (g : Buf (Elt Ideal) (arg12.view.loc (c : Thread nD τ))) (k : Fin k0_t1_loop.trips) (h : GInv c arg11 arg12 X fz g k.val) :
    GInv c arg11 arg12 X fz (arg12.view.writes (Elt Ideal) g (qKeys.map (gPiece c arg2 harg2 arg11 X fz k))) (k.val + 1) := by
  intro q t l hv ht
  have hk : k.val < 128 := trips_eq ▸ k.isLt
  by_cases hlt : t.val < k.val
  · rw [View.read_writes_apply_of_forall_not_mem]
    · exact h q t l hv hlt
    · intro p hp
      obtain ⟨q', -, rfl⟩ := List.mem_map.mp hp
      have hq := gWord_toNat k q'
      refine Rect.not_mem_set_of_axis _ _ 0 _ 1 hq rfl rfl ?_
      show 128 * q.val + t.val < 128 * q'.val + k.val ∨ 128 * q'.val + k.val + 1 ≤ 128 * q.val + t.val
      omega
  · have hkt : t.val = k.val := by omega
    have hX : ∀ q', (X.1 (ix2 t q')).toNat / 128 * 128 + t.val < 32000 := by
      intro q'
      have : BitVec.toNat (X.1 (ix2 t q')) < 32000 := X.2 _
      omega
    set G : S896x128.Idx → EReal := fun y => arg11.view.read (Elt Ideal) fz (ix2 (⟨(X.1 (ix2 t (⟨(y 0).val / 128, by have := (y 0).isLt; simp at *; omega⟩ : Fin 7))).toNat / 128 * 128 + t.val, hX _⟩ : Fin 32000) (y 1)) with hG
    rw [View.read_writes_apply_of_pieces (v := arg12.view) (f := g) G]
    · show arg11.view.read (Elt Ideal) fz (ix2 (⟨(X.1 (ix2 t (⟨(128 * q.val + t.val) / 128, _⟩ : Fin 7))).toNat / 128 * 128 + t.val, hX _⟩ : Fin 32000) l) = _
      have e : (⟨(128 * q.val + t.val) / 128, by omega⟩ : Fin 7) = q := Fin.ext (by show (128 * q.val + t.val) / 128 = q.val; omega)
      simp only [e]
    · intro p hp x
      obtain ⟨q', -, rfl⟩ := List.mem_map.mp hp
      obtain ⟨x0, x1, rfl⟩ : ∃ (x0 : Fin 1) (x1 : Fin 128), x = ix2 x0 x1 := ⟨x 0, x 1, eq_ix2 x⟩
      have hq := gWord_toNat k q'
      have e0 : ((gPiece c arg2 harg2 arg11 X fz k q').1.emb (ix2 x0 x1) 0).val = 128 * q'.val + k.val := by
        show (gWord k q').toNat + 1 * x0.val = _
        rw [hq]; omega
      have e1 : ((gPiece c arg2 harg2 arg11 X fz k q').1.emb (ix2 x0 x1) 1) = x1 := by
        refine Fin.ext ?_
        show 0 + 1 * x1.val = _
        omega
      have e : (⟨((gPiece c arg2 harg2 arg11 X fz k q').1.emb (ix2 x0 x1) 0).val / 128, by rw [e0]; omega⟩ : Fin 7) = q' := Fin.ext ((congrArg (· / 128) e0).trans (by show (128 * q'.val + k.val) / 128 = q'.val; omega))
      rw [gPiece_at c arg2 harg2 arg11 X fz k q' t x1 hkt (ix2 x0 x1) rfl (hX _)]
      simp only [hG, e, e1]
    · refine ⟨gPiece c arg2 harg2 arg11 X fz k q, List.mem_map.mpr ⟨_, mem_qKeys _, rfl⟩, (LoadRect.mem_set _).mpr fun a => ?_⟩
      have hq := gWord_toNat k q
      fin_cases a
      · refine ⟨0, Nat.one_pos, ?_⟩
        show 128 * q.val + t.val = (gWord k q).toNat + 1 * 0
        omega
      · refine ⟨l.val, l.isLt, ?_⟩
        show l.val = 0 + 1 * l.val
        omega

/-- The one-hot choice that the kernel makes: lane `x` is taken when it is the target's place in its block. -/
theorem sel_at (x : Fin 128) (w : BitVec 32) (a : EReal) :
    Scalar.select (IntOp.cmpi CmpIPredicate.eq (BitVec.ofNat 32 x.val) (IntOp.andi w 127#32)) a (0 : EReal) = if x.val = w.toNat % 128 then a else 0 := by
  have h : (BitVec.ofNat 32 x.val = w &&& 127#32) ↔ x.val = w.toNat % 128 := by
    rw [← BitVec.toNat_inj, BitVec.toNat_and, show (127#32 : BitVec 32).toNat = 2 ^ 7 - 1 from rfl, Nat.and_two_pow_sub_one_eq_mod, BitVec.toNat_ofNat, Nat.mod_eq_of_lt (by omega : x.val < 2 ^ 32)]
  unfold Scalar.select
  refine if_congr ?_ rfl rfl
  refine Iff.trans ?_ h
  show BitVec.ofBool (BitVec.ofNat 32 x.val == w &&& 127#32) = 1#1 ↔ _
  cases hb : (BitVec.ofNat 32 x.val == w &&& 127#32)
  · exact ⟨fun h => absurd h (by decide), fun h => absurd (beq_iff_eq.mpr h) (by rw [hb]; decide)⟩
  · exact ⟨fun _ => beq_iff_eq.mp hb, fun _ => rfl⟩

/-- The log-probability of a target from the gathered rows. -/
theorem tPiece_at (L : Fin 128 → Fin 32000 → EReal) (hL : ZInv L 250 (arg11.view.read (Elt Ideal) fz)) (lse : FVec Ideal S128x1 .f32)
    (x4 : Vec Ideal S128x7 .i32) (hx4 : x4 = X.1) (g : Buf (Elt Ideal) (arg12.view.loc (c : Thread nD τ))) (hg : GInv c arg11 arg12 X fz g 128)
    (q : Fin 7) (t : Fin 128) (o : Fin 1) :
    (tPiece c arg5 harg5 arg12 lse x4 g q).2 (ix2 t o) = L t ⟨(X.1 (ix2 t q)).toNat, X.2 _⟩ - lse (ix2 t (0 : Fin 1)) := by
  obtain rfl : o = 0 := Subsingleton.elim _ _
  subst hx4
  have hlt : BitVec.toNat (X.1 (ix2 t q)) < 32000 := X.2 _
  have hv : (X.1 (ix2 t q)).toNat / 128 * 128 + t.val < 32000 := by omega
  unfold tPiece
  have h5 : View.readAt (Elt Ideal) arg5.view (Rect.unit (s := S128x7) ![0, q.val] S128x1.size (cInb q)).toLoadRect (harg5.unread X.1) (ix2 t (0 : Fin 1)) = X.1 (ix2 t q) := by
    rw [Memref.IsWhole.readAt_unread]; pointwise
  have h12 : ∀ x : Fin 128, View.readAt (Elt Ideal) arg12.view (Rect.unit (s := S896x128) ![128 * q.val, 0] S128x128.size (rInb q)).toLoadRect g (ix2 t x)
      = L t ⟨128 * ((X.1 (ix2 t q)).toNat / 128) + x.val, by omega⟩ := by
    intro x
    refine Eq.trans ?_ ((hg q t x hv t.isLt).trans ?_)
    · rw [View.readAt_apply]
      refine congrArg (arg12.view.read (Elt Ideal) g) (funext fun a => Fin.ext ?_)
      fin_cases a
      · show 128 * q.val + 1 * t.val = 128 * q.val + t.val
        omega
      · show 0 + 1 * x.val = x.val
        omega
    · refine Eq.trans ?_ (hL ⟨(X.1 (ix2 t q)).toNat / 128, by omega⟩ t x (by show (X.1 (ix2 t q)).toNat / 128 < 250; omega))
      refine congrArg (arg11.view.read (Elt Ideal) fz) (congrArg (ix2 · x) (Fin.ext ?_))
      show (X.1 (ix2 t q)).toNat / 128 * 128 + t.val = 128 * ((X.1 (ix2 t q)).toNat / 128) + t.val
      omega
  pointwise [k0_pay21]
  refine congrArg (· - lse (ix2 t (0 : Fin 1))) ?_
  simp only [h5, h12]
  refine (Finset.sum_congr rfl fun x _ => sel_at x _ _).trans ?_
  refine (Finset.sum_eq_single (⟨(X.1 (ix2 t q)).toNat % 128, by omega⟩ : Fin 128) ?_ ?_).trans ?_
  · intro b _ hb
    exact if_neg fun h => hb (Fin.ext h)
  · intro h; exact absurd (Finset.mem_univ _) h
  · rw [if_pos rfl]
    refine congrArg (L t) (Fin.ext ?_)
    show 128 * ((X.1 (ix2 t q)).toNat / 128) + (X.1 (ix2 t q)).toNat % 128 = (X.1 (ix2 t q)).toNat
    omega

/-- The stored columns of log-probabilities at an index. -/
theorem tlp_at (arg9 : Memref sig .tc .vmem S128x7 .f32) (f : Buf (Elt Ideal) (arg9.view.loc (c : Thread nD τ)))
    (L : Fin 128 → Fin 32000 → EReal) (hL : ZInv L 250 (arg11.view.read (Elt Ideal) fz)) (lse : FVec Ideal S128x1 .f32)
    (x4 : Vec Ideal S128x7 .i32) (hx4 : x4 = X.1) (g : Buf (Elt Ideal) (arg12.view.loc (c : Thread nD τ))) (hg : GInv c arg11 arg12 X fz g 128)
    (t : Fin 128) (q : Fin 7) :
    arg9.view.read (Elt Ideal) (arg9.view.writes (Elt Ideal) f (qKeys.map (tPiece c arg5 harg5 arg12 lse x4 g))) (ix2 t q)
      = L t ⟨(X.1 (ix2 t q)).toNat, X.2 _⟩ - lse (ix2 t (0 : Fin 1)) := by
  set G : S128x7.Idx → EReal := fun y => L (y 0) ⟨(X.1 (ix2 (y 0) (y 1))).toNat, X.2 _⟩ - lse (ix2 (y 0) (0 : Fin 1)) with hG
  rw [View.read_writes_apply_of_pieces (v := arg9.view) (f := f) G]
  · rfl
  · intro p hp x
    obtain ⟨q', -, rfl⟩ := List.mem_map.mp hp
    obtain ⟨x0, x1, rfl⟩ : ∃ (x0 : Fin 128) (x1 : Fin 1), x = ix2 x0 x1 := ⟨x 0, x 1, eq_ix2 x⟩
    have e0 : ((tPiece c arg5 harg5 arg12 lse x4 g q').1.emb (ix2 x0 x1) 0) = x0 := by
      refine Fin.ext ?_
      show 0 + 1 * x0.val = _
      omega
    have e1 : ((tPiece c arg5 harg5 arg12 lse x4 g q').1.emb (ix2 x0 x1) 1) = q' := by
      refine Fin.ext ?_
      show q'.val + 1 * x1.val = _
      omega
    rw [tPiece_at c arg5 harg5 arg11 arg12 X fz L hL lse x4 hx4 g hg q' x0 x1]
    simp only [hG, e0, e1]
  · refine ⟨tPiece c arg5 harg5 arg12 lse x4 g q, List.mem_map.mpr ⟨_, mem_qKeys _, rfl⟩, (LoadRect.mem_set _).mpr fun a => ?_⟩
    fin_cases a
    · refine ⟨t.val, t.isLt, ?_⟩
      show t.val = 0 + 1 * t.val
      omega
    · refine ⟨0, Nat.one_pos, ?_⟩
      show q.val = q.val + 1 * 0
      omega
end

section
variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (hc1 : condLast i)

/-- Every trip of the gather loop done so far has gathered its token's rows. -/
theorem gAt_inv (v3794 : FVec Ideal S128x1 .f32) (c0 : BitVec 32) (X : Words Ideal) (fz : Buf (Elt Ideal) (arg11.view.loc (c : Thread nD τ))) (g0 : Buf (Elt Ideal) (arg12.view.loc (c : Thread nD τ))) (n : ℕ) (hn : n ≤ k0_t1_loop.trips) :
    GInv c arg11 arg12 X fz (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 v3794 c0 X fz g0 n) n := by
  induction n with
  | zero => intro q t l hv h; exact absurd h (Nat.not_lt_zero _)
  | succ n ih =>
    have h1 := gInv_step c arg2 harg2 arg11 arg12 X fz _ ⟨n, hn⟩ (ih (Nat.le_of_succ_le hn))
    rw [← trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 v3794 c0 X fz ⟨n, hn⟩, ← gAt_succ (k := ⟨n, hn⟩)] at h1
    exact h1

/-- The log-probabilities of the targets, as the last point leaves them. -/
theorem runC_tlp_at (x0 : Vec Ideal S250x32 .f32) (x1 : Words Ideal) (x2 : Vec Ideal S128x4096 .fp8e4m3) (x3 : Vec Ideal S128x1 .f32) (x4 : Vec Ideal S128x7 .i32) (x5 : Vec Ideal S1280x4096 .fp8e4m3)
  (xb : Vec Ideal S64x2x4096 .bf16) (xz : Vec Ideal S32000x128 .f32) (xg : Vec Ideal S896x128 .f32) (xm xs xa xv : Vec Ideal S128x256 .f32) (hc0 : ¬condFirst i)
    (L : Fin 128 → Fin 32000 → EReal) (hL : ZInv L 250 (arg11.view.read (Elt Ideal) (arg11.view.writes (Elt Ideal) (harg11.unread xz) (zKeys.map (zPiece i (rZ i arg1 harg1 arg4 harg4 arg6 harg6 x0 x3 x5 (rB arg10 harg10 xb)))))))
    (hx4 : x4 = x1.1) (f : Buf (Elt Ideal) (arg9.view.loc (c : Thread nD τ))) (t : Fin 128) (q : Fin 7) :
    arg9.view.read (Elt Ideal) (arg9.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.2.1) (ix2 t q)
      = L t ⟨(x1.1 (ix2 t q)).toNat, x1.2 _⟩ - k0_pay19 (F := Ideal) (St.next5 (rZ i arg1 harg1 arg4 harg4 arg6 harg6 x0 x3 x5 (rB arg10 harg10 xb)) (rSt arg13 harg13 arg14 harg14 arg15 harg15 arg16 harg16 xm xs xa xv)).m (St.next5 (rZ i arg1 harg1 arg4 harg4 arg6 harg6 x0 x3 x5 (rB arg10 harg10 xb)) (rSt arg13 harg13 arg14 harg14 arg15 harg15 arg16 harg16 xm xs xa xv)).s (ix2 t (0 : Fin 1)) := by
  obtain ⟨v3794, g0, e⟩ := runC_tlp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 x0 x1 x2 x3 x4 x5 xb xz xg xm xs xa xv hc0
  rw [e]
  refine tlp_at c arg5 harg5 arg11 arg12 x1 _ arg9 f L hL _ x4 hx4 _ ?_ t q
  have h := gAt_inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 v3794 0#32 x1 (arg11.view.writes (Elt Ideal) (harg11.unread xz) (zKeys.map (zPiece i (rZ i arg1 harg1 arg4 harg4 arg6 harg6 x0 x3 x5 (rB arg10 harg10 xb))))) g0 k0_t1_loop.trips (Nat.le_refl _)
  rw [show k0_t1_loop.trips = 128 from trips_eq] at h ⊢
  exact h
end

end Cert.KernelIdeal.Gen

end
-- ==== Proof.PI.PiecesA.lean ====
module

public import proofs.«01_k».proof.Proof.PI.Ops

@[expose] public section

set_option maxRecDepth 16384

noncomputable section

namespace Cert.KernelIdeal.Gen

open Idealize.ShloMosaic Idealize.ShloMosaic.TcCoe

variable {F : FTy → Type} [FloatOps F]

variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (x0 : Vec F S250x32 .f32) (x1 : Vec F S128x7 .i32) (x2 : Vec F S128x4096 .fp8e4m3) (x3 : Vec F S128x1 .f32) (x4 : Vec F S128x7 .i32) (x5 : Vec F S1280x4096 .fp8e4m3)
  (xz : Vec F S32000x128 .f32)

/-- The first point reads back the initial running values. -/
theorem runA_st0 : (⟨runA.sl.v714 c arg13, runA.sl.v722 c arg14, runA.sl.v723 c arg15, runA.sl.v724 c arg16⟩ : St F) = St.init := by
  rw [St.mk.injEq]; exact ⟨View.readCov_full _ _ _ _ _, View.readCov_full _ _ _ _ _, View.readCov_full _ _ _ _ _, View.readCov_full _ _ _ _ _⟩

set_option maxHeartbeats 4000000 in
/-- The running values that the first point reads back after its column tile 0. -/
theorem runA_st1 : (⟨runA.sl.v1464 c i arg1 harg1 arg3 harg3 arg4 harg4 arg6 harg6 arg10 arg13 x0 x2 x3 x5, runA.sl.v1472 c i arg1 harg1 arg3 harg3 arg4 harg4 arg6 harg6 arg10 arg13 arg14 x0 x2 x3 x5, runA.sl.v1473 c i arg1 harg1 arg3 harg3 arg4 harg4 arg6 harg6 arg10 arg13 arg14 arg15 x0 x2 x3 x5, runA.sl.v1474 c i arg1 harg1 arg3 harg3 arg4 harg4 arg6 harg6 arg10 arg13 arg14 arg15 arg16 x0 x2 x3 x5⟩ : St F) = St.next ((rZ i arg1 harg1 arg4 harg4 arg6 harg6 x0 x3 x5 (rBA arg10 arg3 harg3 x2)) 0) (⟨runA.sl.v714 c arg13, runA.sl.v722 c arg14, runA.sl.v723 c arg15, runA.sl.v724 c arg16⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the first point reads back after its column tile 1. -/
theorem runA_st2 : (⟨runA.sl.v2214 c i arg1 harg1 arg3 harg3 arg4 harg4 arg6 harg6 arg10 arg13 x0 x2 x3 x5, runA.sl.v2222 c i arg1 harg1 arg3 harg3 arg4 harg4 arg6 harg6 arg10 arg13 arg14 x0 x2 x3 x5, runA.sl.v2223 c i arg1 harg1 arg3 harg3 arg4 harg4 arg6 harg6 arg10 arg13 arg14 arg15 x0 x2 x3 x5, runA.sl.v2224 c i arg1 harg1 arg3 harg3 arg4 harg4 arg6 harg6 arg10 arg13 arg14 arg15 arg16 x0 x2 x3 x5⟩ : St F) = St.next ((rZ i arg1 harg1 arg4 harg4 arg6 harg6 x0 x3 x5 (rBA arg10 arg3 harg3 x2)) 1) (⟨runA.sl.v1464 c i arg1 harg1 arg3 harg3 arg4 harg4 arg6 harg6 arg10 arg13 x0 x2 x3 x5, runA.sl.v1472 c i arg1 harg1 arg3 harg3 arg4 harg4 arg6 harg6 arg10 arg13 arg14 x0 x2 x3 x5, runA.sl.v1473 c i arg1 harg1 arg3 harg3 arg4 harg4 arg6 harg6 arg10 arg13 arg14 arg15 x0 x2 x3 x5, runA.sl.v1474 c i arg1 harg1 arg3 harg3 arg4 harg4 arg6 harg6 arg10 arg13 arg14 arg15 arg16 x0 x2 x3 x5⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the first point reads back after its column tile 2. -/
theorem runA_st3 : (⟨runA.sl.v2964 c i arg1 harg1 arg3 harg3 arg4 harg4 arg6 harg6 arg10 arg13 x0 x2 x3 x5, runA.sl.v2972 c i arg1 harg1 arg3 harg3 arg4 harg4 arg6 harg6 arg10 arg13 arg14 x0 x2 x3 x5, runA.sl.v2973 c i arg1 harg1 arg3 harg3 arg4 harg4 arg6 harg6 arg10 arg13 arg14 arg15 x0 x2 x3 x5, runA.sl.v2974 c i arg1 harg1 arg3 harg3 arg4 harg4 arg6 harg6 arg10 arg13 arg14 arg15 arg16 x0 x2 x3 x5⟩ : St F) = St.next ((rZ i arg1 harg1 arg4 harg4 arg6 harg6 x0 x3 x5 (rBA arg10 arg3 harg3 x2)) 2) (⟨runA.sl.v2214 c i arg1 harg1 arg3 harg3 arg4 harg4 arg6 harg6 arg10 arg13 x0 x2 x3 x5, runA.sl.v2222 c i arg1 harg1 arg3 harg3 arg4 harg4 arg6 harg6 arg10 arg13 arg14 x0 x2 x3 x5, runA.sl.v2223 c i arg1 harg1 arg3 harg3 arg4 harg4 arg6 harg6 arg10 arg13 arg14 arg15 x0 x2 x3 x5, runA.sl.v2224 c i arg1 harg1 arg3 harg3 arg4 harg4 arg6 harg6 arg10 arg13 arg14 arg15 arg16 x0 x2 x3 x5⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the first point reads back after its column tile 3. -/
theorem runA_st4 : (⟨runA.sl.v3714 c i arg1 harg1 arg3 harg3 arg4 harg4 arg6 harg6 arg10 arg13 x0 x2 x3 x5, runA.sl.v3722 c i arg1 harg1 arg3 harg3 arg4 harg4 arg6 harg6 arg10 arg13 arg14 x0 x2 x3 x5, runA.sl.v3723 c i arg1 harg1 arg3 harg3 arg4 harg4 arg6 harg6 arg10 arg13 arg14 arg15 x0 x2 x3 x5, runA.sl.v3724 c i arg1 harg1 arg3 harg3 arg4 harg4 arg6 harg6 arg10 arg13 arg14 arg15 arg16 x0 x2 x3 x5⟩ : St F) = St.next ((rZ i arg1 harg1 arg4 harg4 arg6 harg6 x0 x3 x5 (rBA arg10 arg3 harg3 x2)) 3) (⟨runA.sl.v2964 c i arg1 harg1 arg3 harg3 arg4 harg4 arg6 harg6 arg10 arg13 x0 x2 x3 x5, runA.sl.v2972 c i arg1 harg1 arg3 harg3 arg4 harg4 arg6 harg6 arg10 arg13 arg14 x0 x2 x3 x5, runA.sl.v2973 c i arg1 harg1 arg3 harg3 arg4 harg4 arg6 harg6 arg10 arg13 arg14 arg15 x0 x2 x3 x5, runA.sl.v2974 c i arg1 harg1 arg3 harg3 arg4 harg4 arg6 harg6 arg10 arg13 arg14 arg15 arg16 x0 x2 x3 x5⟩ : St F) := by
  rw [St.next, St.mk.injEq]; exact ⟨View.readCov_full _ _ _ _ _, View.readCov_full _ _ _ _ _, View.readCov_full _ _ _ _ _, View.readCov_full _ _ _ _ _⟩

/-- The running values after the first four column tiles of the first point. -/
theorem runA_four : (⟨runA.sl.v3714 c i arg1 harg1 arg3 harg3 arg4 harg4 arg6 harg6 arg10 arg13 x0 x2 x3 x5, runA.sl.v3722 c i arg1 harg1 arg3 harg3 arg4 harg4 arg6 harg6 arg10 arg13 arg14 x0 x2 x3 x5, runA.sl.v3723 c i arg1 harg1 arg3 harg3 arg4 harg4 arg6 harg6 arg10 arg13 arg14 arg15 x0 x2 x3 x5, runA.sl.v3724 c i arg1 harg1 arg3 harg3 arg4 harg4 arg6 harg6 arg10 arg13 arg14 arg15 arg16 x0 x2 x3 x5⟩ : St F) = St.next ((rZ i arg1 harg1 arg4 harg4 arg6 harg6 x0 x3 x5 (rBA arg10 arg3 harg3 x2)) 3) (St.next ((rZ i arg1 harg1 arg4 harg4 arg6 harg6 x0 x3 x5 (rBA arg10 arg3 harg3 x2)) 2) (St.next ((rZ i arg1 harg1 arg4 harg4 arg6 harg6 x0 x3 x5 (rBA arg10 arg3 harg3 x2)) 1) (St.next ((rZ i arg1 harg1 arg4 harg4 arg6 harg6 x0 x3 x5 (rBA arg10 arg3 harg3 x2)) 0) St.init))) := by
  rw [runA_st4, runA_st3, runA_st2, runA_st1, runA_st0]

set_option maxHeartbeats 4000000 in
/-- What the first point leaves as the running maximum. -/
theorem runA_m (hc0 : condFirst i) (hc1 : ¬condLast i) : ∃ L, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.1 = ⟨Rect.unit (s := S128x256) ![0, 0] S128x256.size inb_S128x256_S128x256_0_0, (St.next5 (rZ i arg1 harg1 arg4 harg4 arg6 harg6 x0 x3 x5 (rBA arg10 arg3 harg3 x2)) St.init).m⟩ :: L := by
  rw [St.next5, ← runA_four (c := c) (arg13 := arg13) (arg14 := arg14) (arg15 := arg15) (arg16 := arg16)]; exact ⟨_, rfl⟩

set_option maxHeartbeats 4000000 in
/-- What the first point leaves as the running sum of exponentials. -/
theorem runA_s (hc0 : condFirst i) (hc1 : ¬condLast i) : ∃ L, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.1 = ⟨Rect.unit (s := S128x256) ![0, 0] S128x256.size inb_S128x256_S128x256_0_0, (St.next5 (rZ i arg1 harg1 arg4 harg4 arg6 harg6 x0 x3 x5 (rBA arg10 arg3 harg3 x2)) St.init).s⟩ :: L := by
  rw [St.next5, ← runA_four (c := c) (arg13 := arg13) (arg14 := arg14) (arg15 := arg15) (arg16 := arg16)]; exact ⟨_, rfl⟩

set_option maxHeartbeats 4000000 in
/-- What the first point leaves as the running first weighted sum. -/
theorem runA_a (hc0 : condFirst i) (hc1 : ¬condLast i) : ∃ L, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.2.1 = ⟨Rect.unit (s := S128x256) ![0, 0] S128x256.size inb_S128x256_S128x256_0_0, (St.next5 (rZ i arg1 harg1 arg4 harg4 arg6 harg6 x0 x3 x5 (rBA arg10 arg3 harg3 x2)) St.init).a⟩ :: L := by
  rw [St.next5, ← runA_four (c := c) (arg13 := arg13) (arg14 := arg14) (arg15 := arg15) (arg16 := arg16)]; exact ⟨_, rfl⟩

set_option maxHeartbeats 4000000 in
/-- What the first point leaves as the running second weighted sum. -/
theorem runA_b (hc0 : condFirst i) (hc1 : ¬condLast i) : ∃ L, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.2.2.1 = ⟨Rect.unit (s := S128x256) ![0, 0] S128x256.size inb_S128x256_S128x256_0_0, (St.next5 (rZ i arg1 harg1 arg4 harg4 arg6 harg6 x0 x3 x5 (rBA arg10 arg3 harg3 x2)) St.init).b⟩ :: L := by
  rw [St.next5, ← runA_four (c := c) (arg13 := arg13) (arg14 := arg14) (arg15 := arg15) (arg16 := arg16)]; exact ⟨_, rfl⟩

set_option maxHeartbeats 4000000 in
/-- The logits the first point stores: two halves for each column tile. -/
theorem runA_z (hc0 : condFirst i) (hc1 : ¬condLast i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.1 = zKeys.map (zPiece i (rZ i arg1 harg1 arg4 harg4 arg6 harg6 x0 x3 x5 (rBA arg10 arg3 harg3 x2))) := rfl

/-- The activations the first point stores. -/
theorem runA_xb (hc0 : condFirst i) (hc1 : ¬condLast i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).1 = [⟨Rect.unit (s := S64x2x4096) ![0, 0, 0] S64x2x4096.size inb_S64x2x4096_S64x2x4096_0_0_0, k0_pay31 (View.readAt (Elt F) arg3.view (Rect.unit (s := S128x4096) ![0, 0] S128x4096.size inb_S128x4096_S128x4096_0_0).toLoadRect (harg3.unread x2))⟩] := rfl

end Cert.KernelIdeal.Gen

end
-- ==== Proof.PI.PiecesB.lean ====
module

public import proofs.«01_k».proof.Proof.PI.Ops

@[expose] public section

set_option maxRecDepth 16384

noncomputable section

namespace Cert.KernelIdeal.Gen

open Idealize.ShloMosaic Idealize.ShloMosaic.TcCoe

variable {F : FTy → Type} [FloatOps F]

variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (x0 : Vec F S250x32 .f32) (x1 : Vec F S128x7 .i32) (x2 : Vec F S128x4096 .fp8e4m3) (x3 : Vec F S128x1 .f32) (x4 : Vec F S128x7 .i32) (x5 : Vec F S1280x4096 .fp8e4m3)
  (xb : Vec F S64x2x4096 .bf16) (xz : Vec F S32000x128 .f32) (xm xs xa xv : Vec F S128x256 .f32)

set_option maxHeartbeats 4000000 in
/-- The running values that the middle point reads back after its column tile 0. -/
theorem runB_st1 : (⟨runB.sl.v1464 c i arg1 harg1 arg4 harg4 arg6 harg6 arg10 harg10 arg13 harg13 x0 x3 x5 xb xm, runB.sl.v1472 c i arg1 harg1 arg4 harg4 arg6 harg6 arg10 harg10 arg13 harg13 arg14 harg14 x0 x3 x5 xb xm xs, runB.sl.v1473 c i arg1 harg1 arg4 harg4 arg6 harg6 arg10 harg10 arg13 harg13 arg14 harg14 arg15 harg15 x0 x3 x5 xb xm xs xa, runB.sl.v1474 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 0) (rSt arg13 harg13 arg14 harg14 arg15 harg15 arg16 harg16 xm xs xa xv) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the middle point reads back after its column tile 1. -/
theorem runB_st2 : (⟨runB.sl.v2214 c i arg1 harg1 arg4 harg4 arg6 harg6 arg10 harg10 arg13 harg13 x0 x3 x5 xb xm, runB.sl.v2222 c i arg1 harg1 arg4 harg4 arg6 harg6 arg10 harg10 arg13 harg13 arg14 harg14 x0 x3 x5 xb xm xs, runB.sl.v2223 c i arg1 harg1 arg4 harg4 arg6 harg6 arg10 harg10 arg13 harg13 arg14 harg14 arg15 harg15 x0 x3 x5 xb xm xs xa, runB.sl.v2224 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 1) (⟨runB.sl.v1464 c i arg1 harg1 arg4 harg4 arg6 harg6 arg10 harg10 arg13 harg13 x0 x3 x5 xb xm, runB.sl.v1472 c i arg1 harg1 arg4 harg4 arg6 harg6 arg10 harg10 arg13 harg13 arg14 harg14 x0 x3 x5 xb xm xs, runB.sl.v1473 c i arg1 harg1 arg4 harg4 arg6 harg6 arg10 harg10 arg13 harg13 arg14 harg14 arg15 harg15 x0 x3 x5 xb xm xs xa, runB.sl.v1474 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the middle point reads back after its column tile 2. -/
theorem runB_st3 : (⟨runB.sl.v2964 c i arg1 harg1 arg4 harg4 arg6 harg6 arg10 harg10 arg13 harg13 x0 x3 x5 xb xm, runB.sl.v2972 c i arg1 harg1 arg4 harg4 arg6 harg6 arg10 harg10 arg13 harg13 arg14 harg14 x0 x3 x5 xb xm xs, runB.sl.v2973 c i arg1 harg1 arg4 harg4 arg6 harg6 arg10 harg10 arg13 harg13 arg14 harg14 arg15 harg15 x0 x3 x5 xb xm xs xa, runB.sl.v2974 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 2) (⟨runB.sl.v2214 c i arg1 harg1 arg4 harg4 arg6 harg6 arg10 harg10 arg13 harg13 x0 x3 x5 xb xm, runB.sl.v2222 c i arg1 harg1 arg4 harg4 arg6 harg6 arg10 harg10 arg13 harg13 arg14 harg14 x0 x3 x5 xb xm xs, runB.sl.v2223 c i arg1 harg1 arg4 harg4 arg6 harg6 arg10 harg10 arg13 harg13 arg14 harg14 arg15 harg15 x0 x3 x5 xb xm xs xa, runB.sl.v2224 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

set_option maxHeartbeats 4000000 in
/-- The running values that the middle point reads back after its column tile 3. -/
theorem runB_st4 : (⟨runB.sl.v3714 c i arg1 harg1 arg4 harg4 arg6 harg6 arg10 harg10 arg13 harg13 x0 x3 x5 xb xm, runB.sl.v3722 c i arg1 harg1 arg4 harg4 arg6 harg6 arg10 harg10 arg13 harg13 arg14 harg14 x0 x3 x5 xb xm xs, runB.sl.v3723 c i arg1 harg1 arg4 harg4 arg6 harg6 arg10 harg10 arg13 harg13 arg14 harg14 arg15 harg15 x0 x3 x5 xb xm xs xa, runB.sl.v3724 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 3) (⟨runB.sl.v2964 c i arg1 harg1 arg4 harg4 arg6 harg6 arg10 harg10 arg13 harg13 x0 x3 x5 xb xm, runB.sl.v2972 c i arg1 harg1 arg4 harg4 arg6 harg6 arg10 harg10 arg13 harg13 arg14 harg14 x0 x3 x5 xb xm xs, runB.sl.v2973 c i arg1 harg1 arg4 harg4 arg6 harg6 arg10 harg10 arg13 harg13 arg14 harg14 arg15 harg15 x0 x3 x5 xb xm xs xa, runB.sl.v2974 c i arg1 harg1 arg4 harg4 arg6 harg6 arg10 harg10 arg13 harg13 arg14 harg14 arg15 harg15 arg16 harg16 x0 x3 x5 xb xm xs xa xv⟩ : St F) := by
  rw [St.next, St.mk.injEq]; exact ⟨View.readCov_full _ _ _ _ _, View.readCov_full _ _ _ _ _, View.readCov_full _ _ _ _ _, View.readCov_full _ _ _ _ _⟩

/-- The running values after the first four column tiles of the middle point. -/
theorem runB_four : (⟨runB.sl.v3714 c i arg1 harg1 arg4 harg4 arg6 harg6 arg10 harg10 arg13 harg13 x0 x3 x5 xb xm, runB.sl.v3722 c i arg1 harg1 arg4 harg4 arg6 harg6 arg10 harg10 arg13 harg13 arg14 harg14 x0 x3 x5 xb xm xs, runB.sl.v3723 c i arg1 harg1 arg4 harg4 arg6 harg6 arg10 harg10 arg13 harg13 arg14 harg14 arg15 harg15 x0 x3 x5 xb xm xs xa, runB.sl.v3724 c i arg1 harg1 arg4 harg4 arg6 harg6 arg10 harg10 arg13 harg13 arg14 harg14 arg15 harg15 arg16 harg16 x0 x3 x5 xb xm xs xa xv⟩ : St F) = St.next ((rZ i arg1 harg1 arg4 harg4 arg6 harg6 x0 x3 x5 (rB arg10 harg10 xb)) 3) (St.next ((rZ i arg1 harg1 arg4 harg4 arg6 harg6 x0 x3 x5 (rB arg10 harg10 xb)) 2) (St.next ((rZ i arg1 harg1 arg4 harg4 arg6 harg6 x0 x3 x5 (rB arg10 harg10 xb)) 1) (St.next ((rZ i arg1 harg1 arg4 harg4 arg6 harg6 x0 x3 x5 (rB arg10 harg10 xb)) 0) (rSt arg13 harg13 arg14 harg14 arg15 harg15 arg16 harg16 xm xs xa xv)))) := by
  rw [runB_st4, runB_st3, runB_st2, runB_st1]

set_option maxHeartbeats 4000000 in
/-- What the middle point leaves as the running maximum. -/
theorem runB_m (hc0 : ¬condFirst i) (hc1 : ¬condLast i) : ∃ L, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.1 = ⟨Rect.unit (s := S128x256) ![0, 0] S128x256.size inb_S128x256_S128x256_0_0, (St.next5 (rZ i arg1 harg1 arg4 harg4 arg6 harg6 x0 x3 x5 (rB arg10 harg10 xb)) (rSt arg13 harg13 arg14 harg14 arg15 harg15 arg16 harg16 xm xs xa xv)).m⟩ :: L := by
  rw [St.next5, ← runB_four (c := c) (arg13 := arg13) (arg14 := arg14) (arg15 := arg15) (arg16 := arg16)]; exact ⟨_, rfl⟩

set_option maxHeartbeats 4000000 in
/-- What the middle point leaves as the running sum of exponentials. -/
theorem runB_s (hc0 : ¬condFirst i) (hc1 : ¬condLast i) : ∃ L, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.1 = ⟨Rect.unit (s := S128x256) ![0, 0] S128x256.size inb_S128x256_S128x256_0_0, (St.next5 (rZ i arg1 harg1 arg4 harg4 arg6 harg6 x0 x3 x5 (rB arg10 harg10 xb)) (rSt arg13 harg13 arg14 harg14 arg15 harg15 arg16 harg16 xm xs xa xv)).s⟩ :: L := by
  rw [St.next5, ← runB_four (c := c) (arg13 := arg13) (arg14 := arg14) (arg15 := arg15) (arg16 := arg16)]; exact ⟨_, rfl⟩

set_option maxHeartbeats 4000000 in
/-- What the middle point leaves as the running first weighted sum. -/
theorem runB_a (hc0 : ¬condFirst i) (hc1 : ¬condLast i) : ∃ L, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.2.1 = ⟨Rect.unit (s := S128x256) ![0, 0] S128x256.size inb_S128x256_S128x256_0_0, (St.next5 (rZ i arg1 harg1 arg4 harg4 arg6 harg6 x0 x3 x5 (rB arg10 harg10 xb)) (rSt arg13 harg13 arg14 harg14 arg15 harg15 arg16 harg16 xm xs xa xv)).a⟩ :: L := by
  rw [St.next5, ← runB_four (c := c) (arg13 := arg13) (arg14 := arg14) (arg15 := arg15) (arg16 := arg16)]; exact ⟨_, rfl⟩

set_option maxHeartbeats 4000000 in
/-- What the middle point leaves as the running second weighted sum. -/
theorem runB_b (hc0 : ¬condFirst i) (hc1 : ¬condLast i) : ∃ L, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.2.2.1 = ⟨Rect.unit (s := S128x256) ![0, 0] S128x256.size inb_S128x256_S128x256_0_0, (St.next5 (rZ i arg1 harg1 arg4 harg4 arg6 harg6 x0 x3 x5 (rB arg10 harg10 xb)) (rSt arg13 harg13 arg14 harg14 arg15 harg15 arg16 harg16 xm xs xa xv)).b⟩ :: L := by
  rw [St.next5, ← runB_four (c := c) (arg13 := arg13) (arg14 := arg14) (arg15 := arg15) (arg16 := arg16)]; exact ⟨_, rfl⟩

set_option maxHeartbeats 4000000 in
/-- The logits the middle point stores: two halves for each column tile. -/
theorem runB_z (hc0 : ¬condFirst i) (hc1 : ¬condLast i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).1 = zKeys.map (zPiece i (rZ i arg1 harg1 arg4 harg4 arg6 harg6 x0 x3 x5 (rB arg10 harg10 xb))) := rfl

end Cert.KernelIdeal.Gen

end
-- ==== Proof.PI.Inv.lean ====
module

public import proofs.«01_k».proof.Proof.PI.Target
public import proofs.«01_k».proof.Proof.PI.PiecesA
public import proofs.«01_k».proof.Proof.PI.PiecesB
public import proofs.«01_k».proof.Proof.PI.PiecesC

@[expose] public section

set_option maxRecDepth 16384

noncomputable section

namespace Cert.KernelIdeal.Gen

open Idealize.ShloMosaic Idealize.ShloMosaic.TcCoe Cert.Stat

/-- What the scratch buffers hold after `n` points: the activations packed, the first `10 n` blocks of logits, and every
    lane's running values of its first `5 n` logits. -/
def Inv (X : Fin 128 → Fin 4096 → EReal) (L : Fin 128 → Fin 32000 → EReal) (z : Fin 128 → Fin 32000 → ℝ) (n : ℕ)
    (xb : Vec Ideal S64x2x4096 .bf16) (xz : Vec Ideal S32000x128 .f32) (xm xs xa xv : Vec Ideal S128x256 .f32) : Prop :=
  n ≠ 0 → (∀ (p : Fin 64) (r : Fin 2) (k : Fin 4096), xb (ix3 p r k) = X ⟨2 * p.val + r.val, by omega⟩ k)
    ∧ ZInv L (10 * n) xz ∧ LInv z (5 * n) ⟨xm, xs, xa, xv⟩

/-- Reading a buffer whose last write covered it all gives what was written. -/
theorem read_last {c : Dev nD} (arg : Memref sig .tc .vmem S128x256 .f32) (f : Buf (Elt Ideal) (arg.view.loc (c : Thread nD τ)))
    {P L : List (View.Piece (Elt Ideal) S128x256 .f32)} {w : Vec Ideal S128x256 .f32}
    (h : P = ⟨Rect.unit (s := S128x256) ![0, 0] S128x256.size inb_S128x256_S128x256_0_0, w⟩ :: L) :
    arg.view.read (Elt Ideal) (arg.view.writes (Elt Ideal) f P) = w := by
  rw [h]; exact View.read_writes_full _ _ _ _ _

/-- Running values equal to ones that satisfy the invariant satisfy it. -/
theorem LInv.of_eq {z : Fin 128 → Fin 32000 → ℝ} {N : ℕ} {x : St Ideal} (h : LInv z N x) {a b d e : Vec Ideal S128x256 .f32}
    (ha : a = x.m) (hb : b = x.s) (hd : d = x.a) (he : e = x.b) : LInv z N ⟨a, b, d, e⟩ := by
  subst ha hb hd he; exact h

section
variable (c : Dev nD)
  (i : grid0.Coords)
  (arg1 : Memref sig .tc .smem S250x32 .f32) (harg1 : arg1.IsWhole)
  (arg2 : Memref sig .tc .smem S128x7 .i32) (harg2 : arg2.IsWhole)
  (arg3 : Memref sig .tc .vmem S128x4096 .fp8e4m3) (harg3 : arg3.IsWhole)
  (arg4 : Memref sig .tc .vmem S128x1 .f32) (harg4 : arg4.IsWhole)
  (arg5 : Memref sig .tc .vmem S128x7 .i32) (harg5 : arg5.IsWhole)
  (arg6 : Memref sig .tc .vmem S1280x4096 .fp8e4m3) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S128x7 .f32) (harg9 : arg9.IsWhole)
  (arg10 : Memref sig .tc .vmem S64x2x4096 .bf16) (harg10 : arg10.IsWhole)
  (arg11 : Memref sig .tc .vmem S32000x128 .f32) (harg11 : arg11.IsWhole)
  (arg12 : Memref sig .tc .vmem S896x128 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x256 .f32) (harg15 : arg15.IsWhole)
  (arg16 : Memref sig .tc .vmem S128x256 .f32) (harg16 : arg16.IsWhole)
  (x0 : Vec Ideal S250x32 .f32) (x2 : Vec Ideal S128x4096 .fp8e4m3) (x3 : Vec Ideal S128x1 .f32) (x4 : Vec Ideal S128x7 .i32) (x5 : Vec Ideal S1280x4096 .fp8e4m3)
  (X : Fin 128 → Fin 4096 → EReal) (XS : Fin 128 → EReal) (W : Fin 32000 → Fin 4096 → EReal) (S : Fin 250 → Fin 32 → EReal)
  (z : Fin 128 → Fin 32000 → ℝ) (hz : ∀ t v, logit X XS W S t v = (z t v : EReal))
  (h0 : ∀ a b, x0 (ix2 a b) = S a b) (h2 : ∀ t k, x2 (ix2 t k) = X t k) (h3 : ∀ t, x3 (ix2 t (0 : Fin 1)) = XS t)
  (h5 : ∀ (r : Fin 1280) k (hr : 1280 * (i 0).val + r.val < 32000), x5 (ix2 r k) = W ⟨1280 * (i 0).val + r.val, hr⟩ k)

include h0 h3 h5 in
/-- A column tile from packed activations is the tile of logits. -/
theorem tile_logit (B : Fin 16 → Vec Ideal S64x2x256 .bf16)
    (hB : ∀ (kt : Fin 16) (p : Fin 64) (r : Fin 2) (k : Fin 256), B kt (ix3 p r k) = X ⟨2 * p.val + r.val, by omega⟩ ⟨256 * kt.val + k.val, by omega⟩)
    (j : Fin 5) (t : Fin 128) (l : Fin 256) (hv : 1280 * (i 0).val + 256 * j.val + l.val < 32000) :
    rZ i arg1 harg1 arg4 harg4 arg6 harg6 x0 x3 x5 B j (ix2 t l) = logit X XS W S t ⟨1280 * (i 0).val + 256 * j.val + l.val, hv⟩ :=
  rZ_at i arg1 harg1 arg4 harg4 arg6 harg6 x0 x3 x5 X XS W S h0 h3 h5 B hB j t l hv

include h0 h3 h5 hz in
/-- The same tile, lane by lane. -/
theorem tile_lane (B : Fin 16 → Vec Ideal S64x2x256 .bf16)
    (hB : ∀ (kt : Fin 16) (p : Fin 64) (r : Fin 2) (k : Fin 256), B kt (ix3 p r k) = X ⟨2 * p.val + r.val, by omega⟩ ⟨256 * kt.val + k.val, by omega⟩)
    (j : Fin 5) (t : Fin 128) (l : Fin 256) :
    rZ i arg1 harg1 arg4 harg4 arg6 harg6 x0 x3 x5 B j (ix2 t l) = (laneOf z t l (5 * (i 0).val + j.val) : ℝ) := by
  have hi : (i 0).val < 25 := (i 0).isLt
  rw [tile_logit i arg1 harg1 arg4 harg4 arg6 harg6 x0 x3 x5 X XS W S h0 h3 h5 B hB j t l (by omega), hz]
  unfold laneOf
  rw [dif_pos (by omega)]
  exact congrArg (fun v => ((z t v : ℝ) : EReal)) (Fin.ext (by show 1280 * (i 0).val + 256 * j.val + l.val = 256 * (5 * (i 0).val + j.val) + l.val; omega))

include h2 in
/-- A piece that the first point reads back is a piece of the activations. -/
theorem packed_first (kt : Fin 16) (p : Fin 64) (r : Fin 2) (k : Fin 256) :
    rBA arg10 arg3 harg3 x2 kt (ix3 p r k) = X ⟨2 * p.val + r.val, by omega⟩ ⟨256 * kt.val + k.val, by omega⟩ :=
  (rBA_at arg10 arg3 harg3 x2 kt p r k).trans (h2 _ _)

/-- A piece that a later point reads is a piece of the activations. -/
theorem packed_later (xb : Vec Ideal S64x2x4096 .bf16) (h : ∀ (p : Fin 64) (r : Fin 2) (k : Fin 4096), xb (ix3 p r k) = X ⟨2 * p.val + r.val, by omega⟩ k)
    (kt : Fin 16) (p : Fin 64) (r : Fin 2) (k : Fin 256) :
    rB arg10 harg10 xb kt (ix3 p r k) = X ⟨2 * p.val + r.val, by omega⟩ ⟨256 * kt.val + k.val, by omega⟩ :=
  (rB_at arg10 harg10 xb kt p r k).trans (h _ _ _)

/-- The running values as a point reads them are those it is handed. -/
theorem rSt_eq (xm xs xa xv : Vec Ideal S128x256 .f32) : rSt (F := Ideal) arg13 harg13 arg14 harg14 arg15 harg15 arg16 harg16 xm xs xa xv = ⟨xm, xs, xa, xv⟩ := by
  unfold rSt
  rw [St.mk.injEq]
  exact ⟨(View.readAt_full _ _ _).trans (Memref.IsWhole.read_unread _ _), (View.readAt_full _ _ _).trans (Memref.IsWhole.read_unread _ _),
    (View.readAt_full _ _ _).trans (Memref.IsWhole.read_unread _ _), (View.readAt_full _ _ _).trans (Memref.IsWhole.read_unread _ _)⟩

set_option maxHeartbeats 4000000 in
include h0 h2 h3 h5 hz in
/-- The first point establishes the invariant. -/
theorem invA (x1 : Vec Ideal S128x7 .i32) (hi : (i 0).val = 0) (hc0 : condFirst i) (hc1 : ¬condLast i) (xz : Vec Ideal S32000x128 .f32)
    (f9 : Buf (Elt Ideal) (arg10.view.loc (c : Thread nD τ))) (f12 : Buf (Elt Ideal) (arg13.view.loc (c : Thread nD τ))) (f13 : Buf (Elt Ideal) (arg14.view.loc (c : Thread nD τ))) (f14 : Buf (Elt Ideal) (arg15.view.loc (c : Thread nD τ))) (f15 : Buf (Elt Ideal) (arg16.view.loc (c : Thread nD τ))) :
    Inv X (logit X XS W S) z 1 (arg10.view.read (Elt Ideal) (arg10.view.writes (Elt Ideal) f9 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).1)) (arg11.view.read (Elt Ideal) (arg11.view.writes (Elt Ideal) (harg11.unread xz) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.1))
      (arg13.view.read (Elt Ideal) (arg13.view.writes (Elt Ideal) f12 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.1)) (arg14.view.read (Elt Ideal) (arg14.view.writes (Elt Ideal) f13 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.1))
      (arg15.view.read (Elt Ideal) (arg15.view.writes (Elt Ideal) f14 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.2.1)) (arg16.view.read (Elt Ideal) (arg16.view.writes (Elt Ideal) f15 (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xz).2.2.2.2.2.1)) := by
  intro _
  refine ⟨?_, ?_, ?_⟩
  · intro p r k
    rw [runA_xb, View.read_writes_full, View.readAt_full, Memref.IsWhole.read_unread]
    exact (packed_at x2 p r k).trans (h2 _ _)
  · rw [runA_z]
    have h := zInv_step i (logit X XS W S) (rZ i arg1 harg1 arg4 harg4 arg6 harg6 x0 x3 x5 (rBA arg10 arg3 harg3 x2)) (tile_logit i arg1 harg1 arg4 harg4 arg6 harg6 x0 x3 x5 X XS W S h0 h3 h5 _ (packed_first arg3 harg3 arg10 x2 X h2)) arg11 harg11 xz
      (by intro b t l hb; rw [hi] at hb; exact absurd hb (Nat.not_lt_zero _))
    rw [hi] at h
    exact h
  · obtain ⟨Lm, em⟩ := runA_m c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xz hc0 hc1
    obtain ⟨Ls, es⟩ := runA_s c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xz hc0 hc1
    obtain ⟨La, ea⟩ := runA_a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xz hc0 hc1
    obtain ⟨Lb, eb⟩ := runA_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xz hc0 hc1
    have h := LInv.next5 (n := 0) (LInv.init z) (rZ i arg1 harg1 arg4 harg4 arg6 harg6 x0 x3 x5 (rBA arg10 arg3 harg3 x2)) (fun j t l => by
      have := tile_lane i arg1 harg1 arg4 harg4 arg6 harg6 x0 x3 x5 X XS W S z hz h0 h3 h5 _ (packed_first arg3 harg3 arg10 x2 X h2) j t l
      rw [hi] at this; exact this)
    exact h.of_eq (read_last arg13 f12 em) (read_last arg14 f13 es) (read_last arg15 f14 ea) (read_last arg16 f15 eb)

set_option maxHeartbeats 4000000 in
include h0 h3 h5 hz in
/-- A middle point keeps the invariant. -/
theorem invB (x1 : Vec Ideal S128x7 .i32) (hi : (i 0).val ≠ 0) (hc0 : ¬condFirst i) (hc1 : ¬condLast i) (xb : Vec Ideal S64x2x4096 .bf16) (xz : Vec Ideal S32000x128 .f32) (xm xs xa xv : Vec Ideal S128x256 .f32)
    (hI : Inv X (logit X XS W S) z (i 0).val xb xz xm xs xa xv)
    (f12 : Buf (Elt Ideal) (arg13.view.loc (c : Thread nD τ))) (f13 : Buf (Elt Ideal) (arg14.view.loc (c : Thread nD τ))) (f14 : Buf (Elt Ideal) (arg15.view.loc (c : Thread nD τ))) (f15 : Buf (Elt Ideal) (arg16.view.loc (c : Thread nD τ))) :
    Inv X (logit X XS W S) z ((i 0).val + 1) xb (arg11.view.read (Elt Ideal) (arg11.view.writes (Elt Ideal) (harg11.unread xz) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).1))
      (arg13.view.read (Elt Ideal) (arg13.view.writes (Elt Ideal) f12 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.1)) (arg14.view.read (Elt Ideal) (arg14.view.writes (Elt Ideal) f13 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.1))
      (arg15.view.read (Elt Ideal) (arg15.view.writes (Elt Ideal) f14 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.2.1)) (arg16.view.read (Elt Ideal) (arg16.view.writes (Elt Ideal) f15 (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xm xs xa xv).2.2.2.2.1)) := by
  intro _
  obtain ⟨hb, hZ, hL⟩ := hI hi
  refine ⟨hb, ?_, ?_⟩
  · rw [runB_z]
    exact zInv_step i (logit X XS W S) (rZ i arg1 harg1 arg4 harg4 arg6 harg6 x0 x3 x5 (rB arg10 harg10 xb)) (tile_logit i arg1 harg1 arg4 harg4 arg6 harg6 x0 x3 x5 X XS W S h0 h3 h5 _ (packed_later arg10 harg10 X xb hb)) arg11 harg11 xz hZ
  · obtain ⟨Lm, em⟩ := runB_m c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xb xz xm xs xa xv hc0 hc1
    obtain ⟨Ls, es⟩ := runB_s c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xb xz xm xs xa xv hc0 hc1
    obtain ⟨La, ea⟩ := runB_a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xb xz xm xs xa xv hc0 hc1
    obtain ⟨Lb, eb⟩ := runB_b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xb xz xm xs xa xv hc0 hc1
    rw [rSt_eq] at em es ea eb
    have h := LInv.next5 hL (rZ i arg1 harg1 arg4 harg4 arg6 harg6 x0 x3 x5 (rB arg10 harg10 xb)) (tile_lane i arg1 harg1 arg4 harg4 arg6 harg6 x0 x3 x5 X XS W S z hz h0 h3 h5 _ (packed_later arg10 harg10 X xb hb))
    exact h.of_eq (read_last arg13 f12 em) (read_last arg14 f13 es) (read_last arg15 f14 ea) (read_last arg16 f15 eb)

section last
variable (x1 : Words Ideal) (hi : (i 0).val = 24) (hc0 : ¬condFirst i) (hc1 : condLast i) (xb : Vec Ideal S64x2x4096 .bf16) (xz : Vec Ideal S32000x128 .f32)
    (xg : Vec Ideal S896x128 .f32) (xm xs xa xv : Vec Ideal S128x256 .f32)
    (hI : Inv X (logit X XS W S) z (i 0).val xb xz xm xs xa xv)
include h0 h3 h5 hz hi hI

/-- The running values after the last tile. -/
theorem lastC : LInv z 125 (St.next5 (rZ i arg1 harg1 arg4 harg4 arg6 harg6 x0 x3 x5 (rB arg10 harg10 xb)) (rSt (F := Ideal) arg13 harg13 arg14 harg14 arg15 harg15 arg16 harg16 xm xs xa xv)) := by
  obtain ⟨hb, hZ, hL⟩ := hI (by omega)
  rw [rSt_eq]
  have h := LInv.next5 hL (rZ i arg1 harg1 arg4 harg4 arg6 harg6 x0 x3 x5 (rB arg10 harg10 xb)) (tile_lane i arg1 harg1 arg4 harg4 arg6 harg6 x0 x3 x5 X XS W S z hz h0 h3 h5 _ (packed_later arg10 harg10 X xb hb))
  rw [hi] at h
  exact h

/-- The entropy that the last point stores. -/
theorem outC_ent (f : Buf (Elt Ideal) (arg7.view.loc (c : Thread nD τ))) (t : Fin 128) :
    (arg7.view.read (Elt Ideal) (arg7.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).1)) (ix2 t (0 : Fin 1)) = ((Stat.entropy (z t) : ℝ) : EReal) := by
  rw [runC_ent, View.read_writes_full]
  exact (lastC i arg1 harg1 arg4 harg4 arg6 harg6 arg10 harg10 arg13 harg13 arg14 harg14 arg15 harg15 arg16 harg16 x0 x3 x5 X XS W S z hz h0 h3 h5 hi xb xz xm xs xa xv hI).entropy t

/-- The variance that the last point stores. -/
theorem outC_var (f : Buf (Elt Ideal) (arg8.view.loc (c : Thread nD τ))) (t : Fin 128) :
    (arg8.view.read (Elt Ideal) (arg8.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.1)) (ix2 t (0 : Fin 1)) = ((Stat.variance (z t) : ℝ) : EReal) := by
  rw [runC_var, View.read_writes_full]
  exact (lastC i arg1 harg1 arg4 harg4 arg6 harg6 arg10 harg10 arg13 harg13 arg14 harg14 arg15 harg15 arg16 harg16 x0 x3 x5 X XS W S z hz h0 h3 h5 hi xb xz xm xs xa xv hI).variance t

/-- The log-probabilities that the last point stores. -/
theorem outC_tlp (hx4 : x4 = x1.1) (f : Buf (Elt Ideal) (arg9.view.loc (c : Thread nD τ))) (t : Fin 128) (q : Fin 7) :
    (arg9.view.read (Elt Ideal) (arg9.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xb xz xg xm xs xa xv).2.2.1)) (ix2 t q) = ((z t ⟨(x1.1 (ix2 t q)).toNat, x1.2 _⟩ - Stat.lse (z t) : ℝ) : EReal) := by
  obtain ⟨hb, hZ, hL⟩ := hI (by omega)
  have hZ2 := zInv_step i (logit X XS W S) (rZ i arg1 harg1 arg4 harg4 arg6 harg6 x0 x3 x5 (rB arg10 harg10 xb)) (tile_logit i arg1 harg1 arg4 harg4 arg6 harg6 x0 x3 x5 X XS W S h0 h3 h5 _ (packed_later arg10 harg10 X xb hb)) arg11 harg11 xz hZ
  rw [hi] at hZ2
  rw [runC_tlp_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 x0 x1 x2 x3 x4 x5 xb xz xg xm xs xa xv hc0 (logit X XS W S) hZ2 hx4 f t q, hz,
    (lastC i arg1 harg1 arg4 harg4 arg6 harg6 arg10 harg10 arg13 harg13 arg14 harg14 arg15 harg15 arg16 harg16 x0 x3 x5 X XS W S z hz h0 h3 h5 hi xb xz xm xs xa xv hI).lse t, ← EReal.coe_sub]
end last
end

end Cert.KernelIdeal.Gen

end
-- ==== Proof.PI.Points.lean ====
module

public import proofs.«01_k».proof.Proof.PI.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of window 0 at point `t`, and its wholeness. -/
abbrev ms0 (t : Fin cfg0.N) : Memref sig .tc .smem S250x32 .f32 := win0_0.stage (cfg0.slots t 0)
abbrev hs0 (t : Fin cfg0.N) : (ms0 t).IsWhole := hstage0_0 ((cfg0.slots t 0).cast nbuf0_0)
/-- The current staging memref of window 1 at point `t`, and its wholeness. -/
abbrev ms1 (t : Fin cfg0.N) : Memref sig .tc .smem S128x7 .i32 := win0_1.stage (cfg0.slots t 1)
abbrev hs1 (t : Fin cfg0.N) : (ms1 t).IsWhole := hstage0_1 ((cfg0.slots t 1).cast nbuf0_1)
/-- The current staging memref of window 2 at point `t`, and its wholeness. -/
abbrev ms2 (t : Fin cfg0.N) : Memref sig .tc .vmem S128x4096 .fp8e4m3 := win0_2.stage (cfg0.slots t 2)
abbrev hs2 (t : Fin cfg0.N) : (ms2 t).IsWhole := hstage0_2 ((cfg0.slots t 2).cast nbuf0_2)
/-- The current staging memref of window 3 at point `t`, and its wholeness. -/
abbrev ms3 (t : Fin cfg0.N) : Memref sig .tc .vmem S128x1 .f32 := win0_3.stage (cfg0.slots t 3)
abbrev hs3 (t : Fin cfg0.N) : (ms3 t).IsWhole := hstage0_3 ((cfg0.slots t 3).cast nbuf0_3)
/-- The current staging memref of window 4 at point `t`, and its wholeness. -/
abbrev ms4 (t : Fin cfg0.N) : Memref sig .tc .vmem S128x7 .i32 := win0_4.stage (cfg0.slots t 4)
abbrev hs4 (t : Fin cfg0.N) : (ms4 t).IsWhole := hstage0_4 ((cfg0.slots t 4).cast nbuf0_4)
/-- The current staging memref of window 5 at point `t`, and its wholeness. -/
abbrev ms5 (t : Fin cfg0.N) : Memref sig .tc .vmem S1280x4096 .fp8e4m3 := win0_5.stage (cfg0.slots t 5)
abbrev hs5 (t : Fin cfg0.N) : (ms5 t).IsWhole := hstage0_5 ((cfg0.slots t 5).cast nbuf0_5)
/-- The current staging memref of window 6 at point `t`, and its wholeness. -/
abbrev ms6 (t : Fin cfg0.N) : Memref sig .tc .vmem S128x1 .f32 := win0_6.stage (cfg0.slots t 6)
abbrev hs6 (t : Fin cfg0.N) : (ms6 t).IsWhole := hstage0_6 ((cfg0.slots t 6).cast nbuf0_6)
/-- The current staging memref of window 7 at point `t`, and its wholeness. -/
abbrev ms7 (t : Fin cfg0.N) : Memref sig .tc .vmem S128x1 .f32 := win0_7.stage (cfg0.slots t 7)
abbrev hs7 (t : Fin cfg0.N) : (ms7 t).IsWhole := hstage0_7 ((cfg0.slots t 7).cast nbuf0_7)
/-- The current staging memref of window 8 at point `t`, and its wholeness. -/
abbrev ms8 (t : Fin cfg0.N) : Memref sig .tc .vmem S128x7 .f32 := win0_8.stage (cfg0.slots t 8)
abbrev hs8 (t : Fin cfg0.N) : (ms8 t).IsWhole := hstage0_8 ((cfg0.slots t 8).cast nbuf0_8)
/-- Scratch operand 0, a whole buffer of the kernel's own. -/
abbrev sc9 : Memref sig .tc .vmem S64x2x4096 .bf16 := Memref.whole cc0_scratch0
/-- Scratch operand 1, a whole buffer of the kernel's own. -/
abbrev sc10 : Memref sig .tc .vmem S32000x128 .f32 := Memref.whole cc0_scratch1
/-- Scratch operand 2, a whole buffer of the kernel's own. -/
abbrev sc11 : Memref sig .tc .vmem S896x128 .f32 := Memref.whole cc0_scratch2
/-- Scratch operand 3, a whole buffer of the kernel's own. -/
abbrev sc12 : Memref sig .tc .vmem S128x256 .f32 := Memref.whole cc0_scratch3
/-- Scratch operand 4, a whole buffer of the kernel's own. -/
abbrev sc13 : Memref sig .tc .vmem S128x256 .f32 := Memref.whole cc0_scratch4
/-- Scratch operand 5, a whole buffer of the kernel's own. -/
abbrev sc14 : Memref sig .tc .vmem S128x256 .f32 := Memref.whole cc0_scratch5
/-- Scratch operand 6, a whole buffer of the kernel's own. -/
abbrev sc15 : Memref sig .tc .vmem S128x256 .f32 := Memref.whole cc0_scratch6

/-- The launch's invariant, scratch buffer by scratch buffer. -/
theorem PhiA_eq (c : Dev nD) :
    (Pipeline.ΦA spec0 c : sProp 𝕄) = iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d)) ∗ (∃ r, prngReg c r)) := by
  unfold Pipeline.ΦA; rw [scopedRest0_eq]; simp only [sc9, sc10, sc11, sc12, sc13, sc14, sc15, owns_whole]; try rfl

/-- The first branch is taken at the first point only. -/
theorem condFirst_iff : ∀ t : Fin cfg0.N, condFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [condFirst, e0]
    word_cmp
   : ∀ t : Fin grid0.N, condFirst (grid0.coords t) ↔ t.val % 25 = 0)

/-- The second branch is taken at the last point only. -/
theorem condLast_iff : ∀ t : Fin cfg0.N, condLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [condLast, k0_cond2, e0]
    word_cmp
   : ∀ t : Fin grid0.N, condLast (grid0.coords t) ↔ t.val % 25 = 24)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Gen

end
-- ==== Proof.PI.Frame.lean ====
module

public import proofs.«01_k».proof.Proof.PI.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three output windows: nothing here reads what the kernel leaves in them. -/
def forgets : Fin 9 → Bool := fun w => decide (6 ≤ w.val)

/-- The proof data on core `c`: the arrays as the region finds them, the inputs' blocks left in place, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨w + 6, h⟩ => Pipeline.Dat.unnamed (cfg := cfg0) ⟨w + 6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [show cfg0.idle 4 (grid0.coords t) = false from rfl], after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [show cfg0.idle 5 (grid0.coords t) = false from rfl], after0_5]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms6 t) fullShare d)
    ∗ (∃ d, owns (c : Thread nD τ) (ms7 t) fullShare d)
    ∗ (∃ d, owns (c : Thread nD τ) (ms8 t) fullShare d))

/-- The targets as every point of the grid sees them are in range. -/
def InRange : Prop := ∀ (c : Dev nD) (t : Fin cfg0.N) (y : S128x7.Idx), (show BitVec 32 from iblk m c 1 t y).toNat < 32000

/-- The body at any point, from the invariant to the invariant. -/
theorem sound_body (hw : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  have hN : t.val < 25 := lt_of_lt_of_eq t.isLt (show cfg0.N = 25 from N_0)
  iintro ⟨⟨⟨⟨%x9, S9⟩, ⟨%x10, S10⟩, ⟨%x11, S11⟩, ⟨%x12, S12⟩, ⟨%x13, S13⟩, ⟨%x14, S14⟩, ⟨%x15, S15⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 25 = 0
  · iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) ((condFirst_iff t).mpr h0) (fun h => absurd ((condLast_iff t).mp h) (by omega)) (iblk m c 0 t) (iblk m c 1 t) (iblk m c 2 t) (iblk m c 3 t) (iblk m c 4 t) (iblk m c 5 t) x10).2.2.2.2.2.2 _ _ _ x9 x11 x12 x13 x14 x15 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S9]; · iexact S9
    isplitl [S10]; · iexact S10
    isplitl [S11]; · iexact S11
    isplitl [S12]; · iexact S12
    isplitl [S13]; · iexact S13
    isplitl [S14]; · iexact S14
    isplitl [S15]; · iexact S15
    iintro ⟨H0, H1, H2, H3, H4, H5, H6, H7, H8, ⟨%e9, S9⟩, S10, S11, ⟨%e12, S12⟩, ⟨%e13, S13⟩, ⟨%e14, S14⟩, ⟨%e15, S15⟩⟩
    isplitl [S9 S10 S11 S12 S13 S14 S15 Hg]
    · isplitr [Hg]
      · isplitl [S9]
        · iexists _; unfold owns; iexists _; isplitr; swap; · iexact S9
          ipureintro; rfl
        isplitl [S10]
        · iexists _; unfold owns; iexists _; isplitr; swap; · iexact S10
          ipureintro; rfl
        isplitl [S11]
        · iexists _; iexact S11
        isplitl [S12]
        · iexists _; unfold owns; iexists _; isplitr; swap; · iexact S12
          ipureintro; rfl
        isplitl [S13]
        · iexists _; unfold owns; iexists _; isplitr; swap; · iexact S13
          ipureintro; rfl
        isplitl [S14]
        · iexists _; unfold owns; iexists _; isplitr; swap; · iexact S14
          ipureintro; rfl
        iexists _; unfold owns; iexists _; isplitr; swap; · iexact S15
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; iexact H6
    isplitl [H7]
    · iexists _; iexact H7
    iexists _; iexact H8
  · by_cases h1 : t.val % 25 = 24
    rotate_left
    · iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) x9 x10 x12 x13 x14 x15).2.2.2.2.2 _ _ _ x11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S9]; · iexact S9
      isplitl [S10]; · iexact S10
      isplitl [S11]; · iexact S11
      isplitl [S12]; · iexact S12
      isplitl [S13]; · iexact S13
      isplitl [S14]; · iexact S14
      isplitl [S15]; · iexact S15
      iintro ⟨H0, H1, H2, H3, H4, H5, H6, H7, H8, S9, S10, S11, ⟨%e12, S12⟩, ⟨%e13, S13⟩, ⟨%e14, S14⟩, ⟨%e15, S15⟩⟩
      isplitl [S9 S10 S11 S12 S13 S14 S15 Hg]
      · isplitr [Hg]
        · isplitl [S9]
          · iexists _; iexact S9
          isplitl [S10]
          · iexists _; unfold owns; iexists _; isplitr; swap; · iexact S10
            ipureintro; rfl
          isplitl [S11]
          · iexists _; iexact S11
          isplitl [S12]
          · iexists _; unfold owns; iexists _; isplitr; swap; · iexact S12
            ipureintro; rfl
          isplitl [S13]
          · iexists _; unfold owns; iexists _; isplitr; swap; · iexact S13
            ipureintro; rfl
          isplitl [S14]
          · iexists _; unfold owns; iexists _; isplitr; swap; · iexact S14
            ipureintro; rfl
          iexists _; unfold owns; iexists _; isplitr; swap; · iexact S15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; iexact H6
      isplitl [H7]
      · iexists _; iexact H7
      iexists _; iexact H8
    · iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).2.2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S9]; · iexact S9
      isplitl [S10]; · iexact S10
      isplitl [S11]; · iexact S11
      isplitl [S12]; · iexact S12
      isplitl [S13]; · iexact S13
      isplitl [S14]; · iexact S14
      isplitl [S15]; · iexact S15
      iintro ⟨H0, H1, H2, H3, H4, H5, ⟨%e6, H6⟩, ⟨%e7, H7⟩, ⟨%e8, H8⟩, S9, S10, ⟨%e11, S11⟩, ⟨%e12, S12⟩, ⟨%e13, S13⟩, ⟨%e14, S14⟩, ⟨%e15, S15⟩⟩
      isplitl [S9 S10 S11 S12 S13 S14 S15 Hg]
      · isplitr [Hg]
        · isplitl [S9]
          · iexists _; iexact S9
          isplitl [S10]
          · iexists _; unfold owns; iexists _; isplitr; swap; · iexact S10
            ipureintro; rfl
          isplitl [S11]
          · iexists _; unfold owns; iexists _; isplitr; swap; · iexact S11
            ipureintro; rfl
          isplitl [S12]
          · iexists _; unfold owns; iexists _; isplitr; swap; · iexact S12
            ipureintro; rfl
          isplitl [S13]
          · iexists _; unfold owns; iexists _; isplitr; swap; · iexact S13
            ipureintro; rfl
          isplitl [S14]
          · iexists _; unfold owns; iexists _; isplitr; swap; · iexact S14
            ipureintro; rfl
          iexists _; unfold owns; iexists _; isplitr; swap; · iexact S15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; unfold owns; iexists _; isplitr; swap; · iexact H6
        ipureintro; rfl
      isplitl [H7]
      · iexists _; unfold owns; iexists _; isplitr; swap; · iexact H7
        ipureintro; rfl
      iexists _; unfold owns; iexists _; isplitr; swap; · iexact H8
      ipureintro; rfl

/-- The library's body obligation with the outputs forgotten. -/
theorem body_obligation (hw : InRange m) (c : Dev nD) :
    BodyObligation (dats (F := F) m 0 c) (defs₀ (F := F)) Variants.none () Set.univ forgets := fun t => by
  rw [bigSep_W0, bigSep_W0, defs₀_row]
  exact triple_restated (sound_body m hw c t) rfl .rfl fun _ => .rfl

/-- The buffers the lines after the region write. -/
def tailWrites : Finset (Ref sig .tc) := {main_v8, main_v9, main_v10}

/-- Every write of the lines after the region is in `tailWrites`. -/
theorem tail_writes : ∀ ops ∈ [hostOps1 (F := F)], ∀ op ∈ ops, ∀ b : Ref sig .tc, Proc.devRef .tc b ∈ op.writes → b ∈ tailWrites := by
  intro ops hops op hop b hb
  obtain rfl := List.mem_singleton.mp hops
  simp only [hostOps1, List.mem_cons, List.mem_nil_iff, List.not_mem_nil, or_false] at hop
  rcases hop with rfl | rfl | rfl <;>
    · rw [StableHlo.reshape_writes, Finset.mem_singleton] at hb
      obtain rfl := Proc.devRef_injective .tc hb
      decide

set_option backward.isDefEq.respectTransparency.types false in
set_option maxHeartbeats 800000 in
/-- The launch: every run ends with the arguments unchanged and every semaphore counter at zero. -/
theorem frame_quiescent (hw : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget_shared cfgs (dats m) (0 : Fin 1) launch₀0 defs₀ Variants.none forgets tailWrites m ρ main (Q' := _)
    (hbody := fun c => (body_obligation m hw c).loose) (hq := fun _ _ _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)
    (hQ' := fun r h => ⟨fun c => ⟨((h.1 c).2 main_arg0 (by decide)).trans (V_main_arg0 m c), ((h.1 c).2 main_arg1 (by decide)).trans (V_main_arg1 m c), ((h.1 c).2 main_arg2 (by decide)).trans (V_main_arg2 m c), ((h.1 c).2 main_arg3 (by decide)).trans (V_main_arg3 m c), ((h.1 c).2 main_arg4 (by decide)).trans (V_main_arg4 m c)⟩, h.2⟩)

end Cert.KernelIdeal.Gen

end
-- ==== Proof.PI.Range.lean ====
module

public import proofs.«01_k».proof.Proof.PI.Frame

@[expose] public section

set_option maxRecDepth 16384

noncomputable section

namespace Cert.KernelIdeal.Gen

open Idealize.ShloMosaic Idealize.ShloMosaic.TcCoe Idealize.ShloMosaic.Tactic Idealize.SL.Sem

variable {F : FTy → Type} [FloatOps F]
variable (m : (ℓ : Loc nD τ sig) → Buf (Elt F) ℓ)

/-- The targets as the region finds them: the argument, reshaped. -/
theorem V_targets (c : Dev nD) : V m c main_v4 = shapeCast S128x7 (m ((c : Thread nD τ).loc main_arg4)) shapeCasts_S1x128x7_S128x7 := by
  show StableHlo.after (List.flatten [hostOps0]) (fun b => m (c, b)) (Proc.devRef .tc main_v4) = _
  simp only [hostOps0, List.flatten_cons, List.flatten_nil, List.append_nil, List.cons_append, List.nil_append]
  after_results_simp <;> rfl

/-- Targets below 32000 in the argument are below 32000 at every grid point. -/
theorem inRange_of (h : ∀ (c : Dev nD) (z : S1x128x7.Idx), (show BitVec 32 from m ((c : Thread nD τ).loc main_arg4) z).toNat < 32000) : InRange m := by
  intro c t y
  have e : ∃ z : S128x7.Idx, iblk m c 1 t y = V m c main_v4 z := ⟨_, rfl⟩
  obtain ⟨z, hz⟩ := e
  rw [hz, V_targets]
  exact h c _

end Cert.KernelIdeal.Gen

end
-- ==== Proof.PI.Blocks.lean ====
module

public import proofs.«01_k».proof.Proof.PI.Range
public import proofs.«01_k».proof.Proof.PI.Point
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ) (c : Dev nD)

/-- The activations, by token and column. -/
def argX (t : Fin 128) (k : Fin 4096) : EReal := m ((c : Thread nD τ).loc main_arg0) (ix3 (0 : Fin 1) t k)
/-- The scale of each token's activations. -/
def argXS (t : Fin 128) : EReal := m ((c : Thread nD τ).loc main_arg1) (ix2 (0 : Fin 1) t)
/-- The weight, by word and column. -/
def argW (v : Fin 32000) (k : Fin 4096) : EReal := m ((c : Thread nD τ).loc main_arg2) (ix2 v k)
/-- The weight's scales, by block. -/
def argS (a : Fin 250) (b : Fin 32) : EReal := m ((c : Thread nD τ).loc main_arg3) (ix2 a b)
/-- The targets, by token and column. -/
def argT (t : Fin 128) (q : Fin 7) : BitVec 32 := m ((c : Thread nD τ).loc main_arg4) (ix3 (0 : Fin 1) t q)

theorem cast_x (x : FVec Ideal S1x128x4096 .f32) (a : Fin 128) (k : Fin 4096) : shapeCast S128x4096 (Host.convertf (F := Ideal) .fp8e4m3 x) shapeCasts_S1x128x4096_S128x4096 (ix2 a k) = x (ix3 (0 : Fin 1) a k) := by
  pointwise
theorem V_x (a : Fin 128) (k : Fin 4096) : V m c main_v5 (ix2 a k) = argX m c a k := by
  have h : V m c main_v5 = shapeCast S128x4096 (Host.convertf (F := Ideal) (φ := .f32) .fp8e4m3 (m ((c : Thread nD τ).loc main_arg0))) shapeCasts_S1x128x4096_S128x4096 := by
    show StableHlo.after (List.flatten [hostOps0]) (fun b => m (c, b)) (Proc.devRef .tc main_v5) = _
    simp only [hostOps0, List.flatten_cons, List.flatten_nil, List.append_nil, List.cons_append, List.nil_append]
    after_results_simp <;> rfl
  rw [h]
  exact cast_x _ a k
theorem cast_xs (x : FVec Ideal S1x128 .f32) (a : Fin 128) : shapeCast S128x1 x shapeCasts_S1x128_S128x1 (ix2 a (0 : Fin 1)) = x (ix2 (0 : Fin 1) a) := by
  pointwise
theorem V_xs (a : Fin 128) : V m c main_v6 (ix2 a (0 : Fin 1)) = argXS m c a := by
  have h : V m c main_v6 = shapeCast S128x1 (m ((c : Thread nD τ).loc main_arg1)) shapeCasts_S1x128_S128x1 := by
    show StableHlo.after (List.flatten [hostOps0]) (fun b => m (c, b)) (Proc.devRef .tc main_v6) = _
    simp only [hostOps0, List.flatten_cons, List.flatten_nil, List.append_nil, List.cons_append, List.nil_append]
    after_results_simp <;> rfl
  rw [h]
  exact cast_xs _ a
theorem V_w (a : Fin 32000) (k : Fin 4096) : V m c main_v1 (ix2 a k) = argW m c a k := by
  have h : V m c main_v1 = Host.convertf (F := Ideal) (φ := .f32) .fp8e4m3 (m ((c : Thread nD τ).loc main_arg2)) := by
    show StableHlo.after (List.flatten [hostOps0]) (fun b => m (c, b)) (Proc.devRef .tc main_v1) = _
    simp only [hostOps0, List.flatten_cons, List.flatten_nil, List.append_nil, List.cons_append, List.nil_append]
    after_results_simp <;> rfl
  rw [h]
  unfold argW
  pointwise
theorem V_s (a : Fin 250) (k : Fin 32) : V m c main_v3 (ix2 a k) = argS m c a k := by
  have h : V m c main_v3 = extf (F := Ideal) .f32 (truncf (F := Ideal) .bf16 (m ((c : Thread nD τ).loc main_arg3)) bitsLt_bf16_f32) bitsLt_bf16_f32 := by
    show StableHlo.after (List.flatten [hostOps0]) (fun b => m (c, b)) (Proc.devRef .tc main_v3) = _
    simp only [hostOps0, List.flatten_cons, List.flatten_nil, List.append_nil, List.cons_append, List.nil_append]
    after_results_simp <;> rfl
  rw [h]
  unfold argS
  pointwise
theorem cast_t (x : IVec S1x128x7 32) (a : Fin 128) (q : Fin 7) : shapeCast S128x7 x shapeCasts_S1x128x7_S128x7 (ix2 a q) = x (ix3 (0 : Fin 1) a q) := by
  pointwise
theorem V_t (a : Fin 128) (q : Fin 7) : V m c main_v4 (ix2 a q) = argT m c a q := by
  rw [V_targets]
  exact cast_t _ a q

theorem idx0 : ∀ t : Fin grid0.N, win0_0.index t = ![0, 0] ∧ win0_1.index t = ![0, 0] ∧ win0_2.index t = ![0, 0] ∧ win0_3.index t = ![0, 0] ∧ win0_4.index t = ![0, 0] := fun _ => ⟨rfl, rfl, rfl, rfl, rfl⟩

theorem iblk0_at (t : Fin cfg0.N) (a : Fin 250) (b : Fin 32) : iblk m c 0 t (ix2 a b) = argS m c a b := by
  rw [← V_s]
  blk_ext [iblk, idx0 t]
theorem iblk1_at (t : Fin cfg0.N) (a : Fin 128) (q : Fin 7) : iblk m c 1 t (ix2 a q) = argT m c a q := by
  rw [← V_t]
  blk_ext [iblk, idx0 t]
theorem iblk4_at (t : Fin cfg0.N) (a : Fin 128) (q : Fin 7) : iblk m c 4 t (ix2 a q) = argT m c a q := by
  rw [← V_t]
  blk_ext [iblk, idx0 t]
theorem iblk2_at (t : Fin cfg0.N) (a : Fin 128) (k : Fin 4096) : iblk m c 2 t (ix2 a k) = argX m c a k := by
  rw [← V_x]
  blk_ext [iblk, idx0 t]
theorem iblk3_at (t : Fin cfg0.N) (a : Fin 128) : iblk m c 3 t (ix2 a (0 : Fin 1)) = argXS m c a := by
  rw [← V_xs]
  blk_ext [iblk, idx0 t]
theorem idx5 : ∀ t : Fin grid0.N, win0_5.index t = ![(grid0.coords t 0).val, 0] := by decide +kernel
theorem iblk5_at (t : Fin cfg0.N) (r : Fin 1280) (k : Fin 4096) (hr : 1280 * (grid0.coords t 0).val + r.val < 32000) :
    iblk m c 5 t (ix2 r k) = argW m c ⟨1280 * (grid0.coords t 0).val + r.val, hr⟩ k := by
  rw [← V_w]
  blk_ext [iblk, idx5]

end Cert.KernelIdeal.Gen

end
-- ==== Proof.PI.Exact.lean ====
module

public import proofs.«01_k».proof.Proof.PI.Inv
public import proofs.«01_k».proof.Proof.PI.Blocks

@[expose] public section

set_option maxRecDepth 16384

noncomputable section

namespace Cert.KernelIdeal.Gen.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (z : Dev nD → Fin 128 → Fin 32000 → ℝ)

/-- The logits on core `c`, from the arguments. -/
def lg (c : Dev nD) (t : Fin 128) (v : Fin 32000) : EReal := logit (argX m c) (argXS m c) (argW m c) (argS m c) t v

/-- The entropies that the run leaves. -/
def out6 (c : Dev nD) : Vec Ideal S128x1 .f32 := fun y => ((Stat.entropy (z c (y 0)) : ℝ) : EReal)
/-- The variances that the run leaves. -/
def out7 (c : Dev nD) : Vec Ideal S128x1 .f32 := fun y => ((Stat.variance (z c (y 0)) : ℝ) : EReal)
open Classical in
/-- The log-probabilities of the targets that the run leaves. -/
def out8 (c : Dev nD) : Vec Ideal S128x7 .f32 := fun y =>
  if h : (argT m c (y 0) (y 1)).toNat < 32000 then ((z c (y 0) ⟨(argT m c (y 0) (y 1)).toNat, h⟩ - Stat.lse (z c (y 0)) : ℝ) : EReal) else 0

/-- Between points: the scratch buffers hold contents that satisfy the invariant (nothing is asked after the last point). -/
def Phi (c : Dev nD) (n : ℕ) : sProp 𝕄 :=
  iprop(∃ x9, ∃ x10, ∃ x12, ∃ x13, ∃ x14, ∃ x15, owns (c : Thread nD τ) sc9 fullShare x9 ∗ owns (c : Thread nD τ) sc10 fullShare x10
    ∗ (∃ d, owns (c : Thread nD τ) sc11 fullShare d) ∗ owns (c : Thread nD τ) sc12 fullShare x12 ∗ owns (c : Thread nD τ) sc13 fullShare x13
    ∗ owns (c : Thread nD τ) sc14 fullShare x14 ∗ owns (c : Thread nD τ) sc15 fullShare x15 ∗ (∃ r, prngReg c r)
    ∗ ⌜n < 25 → Inv (argX m c) (lg m c) (z c) n x9 x10 x12 x13 x14 x15⌝)

/-- The proof data on core `c`: the arrays as the region finds them, the inputs' blocks left in place, the outputs named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 z c
    | ⟨7, _⟩ => out7 z c
    | ⟨8, _⟩ => out8 m z c
    | ⟨w + 9, h⟩ => absurd h (Nat.not_lt.mpr (Nat.le_add_left 9 w))
  Φ n := Phi m z c n.val
  q w := Pipeline.shareOf spec0 w
  owed _ := 0

theorem A_eq (c : Dev nD) (w : Fin cfg0.W) : (dats m z 0 c).A w = V m c (Pipeline.arrRef spec0 w) := by dsimp only [dats]
theorem after0_0 (c : Dev nD) (t : Fin cfg0.N) : (dats m z 0 c).after 0 t = iblk m c 0 t := by dsimp only [dats]
theorem before0_0 (c : Dev nD) (t : Fin cfg0.N) (d) : (dats m z 0 c).before 0 t d = iblk m c 0 t :=
  before0_0_of m (dats m z 0 c) (A_eq m z c 0) (after0_0 m z c) t d
theorem leaves0_0 (c : Dev nD) (t : Fin cfg0.N) : (dats m z 0 c).leavesExact 0 t = owns (c : Thread nD τ) (ms0 t) fullShare (iblk m c 0 t) := by
  rw [show (dats m z 0 c).leavesExact 0 t = owns (c : Thread nD τ) (ms0 t) fullShare ((dats m z 0 c).after 0 t) from by
    unfold Dat.leavesExact; rw [show cfg0.idle 0 (grid0.coords t) = false from rfl], after0_0]
theorem after0_1 (c : Dev nD) (t : Fin cfg0.N) : (dats m z 0 c).after 1 t = iblk m c 1 t := by dsimp only [dats]
theorem before0_1 (c : Dev nD) (t : Fin cfg0.N) (d) : (dats m z 0 c).before 1 t d = iblk m c 1 t :=
  before0_1_of m (dats m z 0 c) (A_eq m z c 1) (after0_1 m z c) t d
theorem leaves0_1 (c : Dev nD) (t : Fin cfg0.N) : (dats m z 0 c).leavesExact 1 t = owns (c : Thread nD τ) (ms1 t) fullShare (iblk m c 1 t) := by
  rw [show (dats m z 0 c).leavesExact 1 t = owns (c : Thread nD τ) (ms1 t) fullShare ((dats m z 0 c).after 1 t) from by
    unfold Dat.leavesExact; rw [show cfg0.idle 1 (grid0.coords t) = false from rfl], after0_1]
theorem after0_2 (c : Dev nD) (t : Fin cfg0.N) : (dats m z 0 c).after 2 t = iblk m c 2 t := by dsimp only [dats]
theorem before0_2 (c : Dev nD) (t : Fin cfg0.N) (d) : (dats m z 0 c).before 2 t d = iblk m c 2 t :=
  before0_2_of m (dats m z 0 c) (A_eq m z c 2) (after0_2 m z c) t d
theorem leaves0_2 (c : Dev nD) (t : Fin cfg0.N) : (dats m z 0 c).leavesExact 2 t = owns (c : Thread nD τ) (ms2 t) fullShare (iblk m c 2 t) := by
  rw [show (dats m z 0 c).leavesExact 2 t = owns (c : Thread nD τ) (ms2 t) fullShare ((dats m z 0 c).after 2 t) from by
    unfold Dat.leavesExact; rw [show cfg0.idle 2 (grid0.coords t) = false from rfl], after0_2]
theorem after0_3 (c : Dev nD) (t : Fin cfg0.N) : (dats m z 0 c).after 3 t = iblk m c 3 t := by dsimp only [dats]
theorem before0_3 (c : Dev nD) (t : Fin cfg0.N) (d) : (dats m z 0 c).before 3 t d = iblk m c 3 t :=
  before0_3_of m (dats m z 0 c) (A_eq m z c 3) (after0_3 m z c) t d
theorem leaves0_3 (c : Dev nD) (t : Fin cfg0.N) : (dats m z 0 c).leavesExact 3 t = owns (c : Thread nD τ) (ms3 t) fullShare (iblk m c 3 t) := by
  rw [show (dats m z 0 c).leavesExact 3 t = owns (c : Thread nD τ) (ms3 t) fullShare ((dats m z 0 c).after 3 t) from by
    unfold Dat.leavesExact; rw [show cfg0.idle 3 (grid0.coords t) = false from rfl], after0_3]
theorem after0_4 (c : Dev nD) (t : Fin cfg0.N) : (dats m z 0 c).after 4 t = iblk m c 4 t := by dsimp only [dats]
theorem before0_4 (c : Dev nD) (t : Fin cfg0.N) (d) : (dats m z 0 c).before 4 t d = iblk m c 4 t :=
  before0_4_of m (dats m z 0 c) (A_eq m z c 4) (after0_4 m z c) t d
theorem leaves0_4 (c : Dev nD) (t : Fin cfg0.N) : (dats m z 0 c).leavesExact 4 t = owns (c : Thread nD τ) (ms4 t) fullShare (iblk m c 4 t) := by
  rw [show (dats m z 0 c).leavesExact 4 t = owns (c : Thread nD τ) (ms4 t) fullShare ((dats m z 0 c).after 4 t) from by
    unfold Dat.leavesExact; rw [show cfg0.idle 4 (grid0.coords t) = false from rfl], after0_4]
theorem after0_5 (c : Dev nD) (t : Fin cfg0.N) : (dats m z 0 c).after 5 t = iblk m c 5 t := by dsimp only [dats]
theorem before0_5 (c : Dev nD) (t : Fin cfg0.N) (d) : (dats m z 0 c).before 5 t d = iblk m c 5 t :=
  before0_5_of m (dats m z 0 c) (A_eq m z c 5) (after0_5 m z c) t d
theorem leaves0_5 (c : Dev nD) (t : Fin cfg0.N) : (dats m z 0 c).leavesExact 5 t = owns (c : Thread nD τ) (ms5 t) fullShare (iblk m c 5 t) := by
  rw [show (dats m z 0 c).leavesExact 5 t = owns (c : Thread nD τ) (ms5 t) fullShare ((dats m z 0 c).after 5 t) from by
    unfold Dat.leavesExact; rw [show cfg0.idle 5 (grid0.coords t) = false from rfl], after0_5]
theorem idleAt6 : ∀ t : Fin cfg0.N, ¬t.val % 25 = 24 → cfg0.idle 6 (grid0.coords t) = true := by decide +kernel
theorem noFlush6 : ∀ t : Fin cfg0.N, ¬t.val % 25 = 24 → (cfg0.win 6).flush t = false := by decide +kernel
theorem liveAt6 : ∀ t : Fin cfg0.N, t.val % 25 = 24 → cfg0.idle 6 (grid0.coords t) = false := by decide +kernel
theorem after0_6 (c : Dev nD) (t : Fin cfg0.N) : (dats m z 0 c).after 6 t = out6 z c := by dsimp only [dats]
theorem idle0_6 (c : Dev nD) (t : Fin cfg0.N) (h : ¬t.val % 25 = 24) :
    (dats m z 0 c).leavesExact 6 t = iprop(∃ d, owns (c : Thread nD τ) (ms6 t) fullShare ((dats m z 0 c).before 6 t d)) :=
  Dat.leavesExact_idle (dats m z 0 c) 6 t (idleAt6 t h) (noFlush6 t h)
theorem leaves0_6 (c : Dev nD) (t : Fin cfg0.N) (h : t.val % 25 = 24) : (dats m z 0 c).leavesExact 6 t = owns (c : Thread nD τ) (ms6 t) fullShare (out6 z c) := by
  rw [show (dats m z 0 c).leavesExact 6 t = owns (c : Thread nD τ) (ms6 t) fullShare ((dats m z 0 c).after 6 t) from by
    unfold Dat.leavesExact; rw [liveAt6 t h], after0_6]
theorem idleAt7 : ∀ t : Fin cfg0.N, ¬t.val % 25 = 24 → cfg0.idle 7 (grid0.coords t) = true := by decide +kernel
theorem noFlush7 : ∀ t : Fin cfg0.N, ¬t.val % 25 = 24 → (cfg0.win 7).flush t = false := by decide +kernel
theorem liveAt7 : ∀ t : Fin cfg0.N, t.val % 25 = 24 → cfg0.idle 7 (grid0.coords t) = false := by decide +kernel
theorem after0_7 (c : Dev nD) (t : Fin cfg0.N) : (dats m z 0 c).after 7 t = out7 z c := by dsimp only [dats]
theorem idle0_7 (c : Dev nD) (t : Fin cfg0.N) (h : ¬t.val % 25 = 24) :
    (dats m z 0 c).leavesExact 7 t = iprop(∃ d, owns (c : Thread nD τ) (ms7 t) fullShare ((dats m z 0 c).before 7 t d)) :=
  Dat.leavesExact_idle (dats m z 0 c) 7 t (idleAt7 t h) (noFlush7 t h)
theorem leaves0_7 (c : Dev nD) (t : Fin cfg0.N) (h : t.val % 25 = 24) : (dats m z 0 c).leavesExact 7 t = owns (c : Thread nD τ) (ms7 t) fullShare (out7 z c) := by
  rw [show (dats m z 0 c).leavesExact 7 t = owns (c : Thread nD τ) (ms7 t) fullShare ((dats m z 0 c).after 7 t) from by
    unfold Dat.leavesExact; rw [liveAt7 t h], after0_7]
theorem idleAt8 : ∀ t : Fin cfg0.N, ¬t.val % 25 = 24 → cfg0.idle 8 (grid0.coords t) = true := by decide +kernel
theorem noFlush8 : ∀ t : Fin cfg0.N, ¬t.val % 25 = 24 → (cfg0.win 8).flush t = false := by decide +kernel
theorem liveAt8 : ∀ t : Fin cfg0.N, t.val % 25 = 24 → cfg0.idle 8 (grid0.coords t) = false := by decide +kernel
theorem after0_8 (c : Dev nD) (t : Fin cfg0.N) : (dats m z 0 c).after 8 t = out8 m z c := by dsimp only [dats]
theorem idle0_8 (c : Dev nD) (t : Fin cfg0.N) (h : ¬t.val % 25 = 24) :
    (dats m z 0 c).leavesExact 8 t = iprop(∃ d, owns (c : Thread nD τ) (ms8 t) fullShare ((dats m z 0 c).before 8 t d)) :=
  Dat.leavesExact_idle (dats m z 0 c) 8 t (idleAt8 t h) (noFlush8 t h)
theorem leaves0_8 (c : Dev nD) (t : Fin cfg0.N) (h : t.val % 25 = 24) : (dats m z 0 c).leavesExact 8 t = owns (c : Thread nD τ) (ms8 t) fullShare (out8 m z c) := by
  rw [show (dats m z 0 c).leavesExact 8 t = owns (c : Thread nD τ) (ms8 t) fullShare ((dats m z 0 c).after 8 t) from by
    unfold Dat.leavesExact; rw [liveAt8 t h], after0_8]

/-- What the body is called with at point `t`. -/
def bodyPre (c : Dev nD) (t : Fin cfg0.N) : sProp 𝕄 :=
  iprop((dats m z 0 c).Φ t.castSucc ∗ (dats m z 0 c).owesAt () t.castSucc
    ∗ (∃ d, owns (c : Thread nD τ) (ms0 t) fullShare ((dats m z 0 c).before 0 t d))
    ∗ (∃ d, owns (c : Thread nD τ) (ms1 t) fullShare ((dats m z 0 c).before 1 t d))
    ∗ (∃ d, owns (c : Thread nD τ) (ms2 t) fullShare ((dats m z 0 c).before 2 t d))
    ∗ (∃ d, owns (c : Thread nD τ) (ms3 t) fullShare ((dats m z 0 c).before 3 t d))
    ∗ (∃ d, owns (c : Thread nD τ) (ms4 t) fullShare ((dats m z 0 c).before 4 t d))
    ∗ (∃ d, owns (c : Thread nD τ) (ms5 t) fullShare ((dats m z 0 c).before 5 t d))
    ∗ (∃ d, owns (c : Thread nD τ) (ms6 t) fullShare ((dats m z 0 c).before 6 t d))
    ∗ (∃ d, owns (c : Thread nD τ) (ms7 t) fullShare ((dats m z 0 c).before 7 t d))
    ∗ (∃ d, owns (c : Thread nD τ) (ms8 t) fullShare ((dats m z 0 c).before 8 t d)))

/-- What the body returns at point `t`. -/
def bodyPost (c : Dev nD) (t : Fin cfg0.N) : sProp 𝕄 :=
  iprop((dats m z 0 c).Φ t.succ ∗ (dats m z 0 c).owesAt () t.succ
    ∗ (dats m z 0 c).leavesExact 0 t
    ∗ (dats m z 0 c).leavesExact 1 t
    ∗ (dats m z 0 c).leavesExact 2 t
    ∗ (dats m z 0 c).leavesExact 3 t
    ∗ (dats m z 0 c).leavesExact 4 t
    ∗ (dats m z 0 c).leavesExact 5 t
    ∗ (dats m z 0 c).leavesExact 6 t
    ∗ (dats m z 0 c).leavesExact 7 t
    ∗ (dats m z 0 c).leavesExact 8 t)

/-- A fact about the invariant at one count holds at an equal count. -/
theorem inv_at {X L z' n n' xb xz xm xs xa xv} (h : Inv X L z' n xb xz xm xs xa xv) (e : n = n') : Inv X L z' n' xb xz xm xs xa xv := e ▸ h

/-- The grid's coordinate at a point is the point's number. -/
theorem coord (t : Fin cfg0.N) : (grid0.coords t 0).val = t.val := by
  have hN : t.val < 25 := lt_of_lt_of_eq t.isLt (show cfg0.N = 25 from N_0)
  have e0 : (grid0.coords t 0).val = t.val / 1 % 25 := Pipeline.Grid.coords_val t 0 (by decide) rfl
  omega

variable (hz : ∀ c t v, logit (argX m c) (argXS m c) (argW m c) (argS m c) t v = (z c t v : EReal)) (hw : InRange m)

set_option maxHeartbeats 4000000 in
include hz in
/-- The body at the first point. -/
theorem sound_first (c : Dev nD) (t : Fin cfg0.N) (h0 : t.val % 25 = 0) :
    bodyPre m z c t ⊢ wp frame (wpE (defs₀ (F := Ideal)) Variants.none c none) Set.univ (bodyAt0 t) (fun _ => bodyPost m z c t) := by
  unfold bodyPre bodyPost bodyAt0
  simp only [before0_0, before0_1, before0_2, before0_3, before0_4, before0_5, leaves0_0, leaves0_1, leaves0_2, leaves0_3, leaves0_4, leaves0_5]
  have h1 : ¬t.val % 25 = 24 := by omega
  rw [idle0_6 m z c t h1, idle0_7 m z c t h1, idle0_8 m z c t h1]
  rw [show (dats m z 0 c).Φ t.succ = Phi m z c (t.val + 1) from rfl,
    show (dats m z 0 c).owesAt () t.succ = (dats m z 0 c).owesAt () t.castSucc from rfl,
    show (dats m z 0 c).Φ t.castSucc = Phi m z c t.val from rfl]
  have hN : t.val < 25 := lt_of_lt_of_eq t.isLt (show cfg0.N = 25 from N_0)
  unfold Phi
  iintro ⟨⟨%x9, %x10, %x12, %x13, %x14, %x15, S9, S10, ⟨%x11, S11⟩, S12, S13, S14, S15, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) ((condFirst_iff t).mpr h0) (fun h => absurd ((condLast_iff t).mp h) (by omega)) (iblk m c 0 t) (iblk m c 1 t) (iblk m c 2 t) (iblk m c 3 t) (iblk m c 4 t) (iblk m c 5 t) x10).2.2.2.2.2.2 _ _ _ x9 x11 x12 x13 x14 x15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, H6, H7, H8, ⟨%e9, S9⟩, S10, S11, ⟨%e12, S12⟩, ⟨%e13, S13⟩, ⟨%e14, S14⟩, ⟨%e15, S15⟩⟩
  isplitl [S9 S10 S11 S12 S13 S14 S15 Hg]
  · iexists _; iexists _; iexists _; iexists _; iexists _; iexists _
    isplitl [S9]
    · unfold owns; iexists _; isplitr; swap; · iexact S9
      ipureintro; rfl
    isplitl [S10]
    · unfold owns; iexists _; isplitr; swap; · iexact S10
      ipureintro; rfl
    isplitl [S11]
    · iexists _; iexact S11
    isplitl [S12]
    · unfold owns; iexists _; isplitr; swap; · iexact S12
      ipureintro; rfl
    isplitl [S13]
    · unfold owns; iexists _; isplitr; swap; · iexact S13
      ipureintro; rfl
    isplitl [S14]
    · unfold owns; iexists _; isplitr; swap; · iexact S14
      ipureintro; rfl
    isplitl [S15]
    · unfold owns; iexists _; isplitr; swap; · iexact S15
      ipureintro; rfl
    isplitl [Hg]; · iexact Hg
    ipureintro
    intro _
    exact inv_at (invA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 2 t) (iblk m c 3 t) (iblk m c 4 t) (iblk m c 5 t) (argX m c) (argXS m c) (argW m c) (argS m c) (z c) (hz c) (iblk0_at m c t) (iblk2_at m c t) (iblk3_at m c t) (iblk5_at m c t)
      (iblk m c 1 t) (by rw [coord]; omega) _ _ x10 e9 e12 e13 e14 e15) (by omega)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iexists d8; iexact H8

set_option maxHeartbeats 4000000 in
include hz in
/-- The body at the middle points. -/
theorem sound_middle (c : Dev nD) (t : Fin cfg0.N) (h0 : ¬t.val % 25 = 0) (h1 : ¬t.val % 25 = 24) :
    bodyPre m z c t ⊢ wp frame (wpE (defs₀ (F := Ideal)) Variants.none c none) Set.univ (bodyAt0 t) (fun _ => bodyPost m z c t) := by
  unfold bodyPre bodyPost bodyAt0
  simp only [before0_0, before0_1, before0_2, before0_3, before0_4, before0_5, leaves0_0, leaves0_1, leaves0_2, leaves0_3, leaves0_4, leaves0_5]
  rw [idle0_6 m z c t h1, idle0_7 m z c t h1, idle0_8 m z c t h1]
  rw [show (dats m z 0 c).Φ t.succ = Phi m z c (t.val + 1) from rfl,
    show (dats m z 0 c).owesAt () t.succ = (dats m z 0 c).owesAt () t.castSucc from rfl,
    show (dats m z 0 c).Φ t.castSucc = Phi m z c t.val from rfl]
  have hN : t.val < 25 := lt_of_lt_of_eq t.isLt (show cfg0.N = 25 from N_0)
  unfold Phi
  iintro ⟨⟨%x9, %x10, %x12, %x13, %x14, %x15, S9, S10, ⟨%x11, S11⟩, S12, S13, S14, S15, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) x9 x10 x12 x13 x14 x15).2.2.2.2.2 _ _ _ x11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, H6, H7, H8, S9, S10, S11, ⟨%e12, S12⟩, ⟨%e13, S13⟩, ⟨%e14, S14⟩, ⟨%e15, S15⟩⟩
  isplitl [S9 S10 S11 S12 S13 S14 S15 Hg]
  · iexists _; iexists _; iexists _; iexists _; iexists _; iexists _
    isplitl [S9]
    · iexact S9
    isplitl [S10]
    · unfold owns; iexists _; isplitr; swap; · iexact S10
      ipureintro; rfl
    isplitl [S11]
    · iexists _; iexact S11
    isplitl [S12]
    · unfold owns; iexists _; isplitr; swap; · iexact S12
      ipureintro; rfl
    isplitl [S13]
    · unfold owns; iexists _; isplitr; swap; · iexact S13
      ipureintro; rfl
    isplitl [S14]
    · unfold owns; iexists _; isplitr; swap; · iexact S14
      ipureintro; rfl
    isplitl [S15]
    · unfold owns; iexists _; isplitr; swap; · iexact S15
      ipureintro; rfl
    isplitl [Hg]; · iexact Hg
    ipureintro
    intro _
    exact inv_at (invB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 2 t) (iblk m c 3 t) (iblk m c 4 t) (iblk m c 5 t) (argX m c) (argXS m c) (argW m c) (argS m c) (z c) (hz c) (iblk0_at m c t) (iblk3_at m c t) (iblk5_at m c t)
      (iblk m c 1 t) (by rw [coord]; omega) _ _ x9 x10 x12 x13 x14 x15 (inv_at (hI hN) (coord t).symm) e12 e13 e14 e15) (congrArg (· + 1) (coord t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iexists d8; iexact H8

include hz in
/-- What the last point stores in window 6, at an index. -/
theorem last_outC_ent (c : Dev nD) (t : Fin cfg0.N) (h0 : ¬t.val % 25 = 0) (h1 : t.val % 25 = 24) (x9 : Vec Ideal S64x2x4096 .bf16) (x10 : Vec Ideal S32000x128 .f32) (x11 : Vec Ideal S896x128 .f32)
    (x12 x13 x14 x15 : Vec Ideal S128x256 .f32) (hI : Inv (argX m c) (lg m c) (z c) t.val x9 x10 x12 x13 x14 x15)
    (f : Buf (Elt Ideal) ((ms6 t).view.loc (c : Thread nD τ))) (a : Fin 128) (b : Fin 1) :
    (ms6 t).view.read (Elt Ideal) ((ms6 t).view.writes (Elt Ideal) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).1) (ix2 a b) = out6 z c (ix2 a b) := by
  obtain rfl : b = 0 := Subsingleton.elim _ _
  exact outC_ent c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 2 t) (iblk m c 3 t) (iblk m c 4 t) (iblk m c 5 t) (argX m c) (argXS m c) (argW m c) (argS m c) (z c) (hz c) (iblk0_at m c t) (iblk3_at m c t) (iblk5_at m c t) ⟨iblk m c 1 t, hw c t⟩ (by rw [coord]; have hN : t.val < 25 := lt_of_lt_of_eq t.isLt (show cfg0.N = 25 from N_0); omega) _ _ x9 x10 x11 x12 x13 x14 x15 (inv_at hI (coord t).symm) f a

include hz in
/-- What the last point stores in window 7, at an index. -/
theorem last_outC_var (c : Dev nD) (t : Fin cfg0.N) (h0 : ¬t.val % 25 = 0) (h1 : t.val % 25 = 24) (x9 : Vec Ideal S64x2x4096 .bf16) (x10 : Vec Ideal S32000x128 .f32) (x11 : Vec Ideal S896x128 .f32)
    (x12 x13 x14 x15 : Vec Ideal S128x256 .f32) (hI : Inv (argX m c) (lg m c) (z c) t.val x9 x10 x12 x13 x14 x15)
    (f : Buf (Elt Ideal) ((ms7 t).view.loc (c : Thread nD τ))) (a : Fin 128) (b : Fin 1) :
    (ms7 t).view.read (Elt Ideal) ((ms7 t).view.writes (Elt Ideal) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).2.1) (ix2 a b) = out7 z c (ix2 a b) := by
  obtain rfl : b = 0 := Subsingleton.elim _ _
  exact outC_var c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 2 t) (iblk m c 3 t) (iblk m c 4 t) (iblk m c 5 t) (argX m c) (argXS m c) (argW m c) (argS m c) (z c) (hz c) (iblk0_at m c t) (iblk3_at m c t) (iblk5_at m c t) ⟨iblk m c 1 t, hw c t⟩ (by rw [coord]; have hN : t.val < 25 := lt_of_lt_of_eq t.isLt (show cfg0.N = 25 from N_0); omega) _ _ x9 x10 x11 x12 x13 x14 x15 (inv_at hI (coord t).symm) f a

/-- The log-probability of a target, from the target as a point reads it. -/
theorem tlp_eq (c : Dev nD) (a : Fin 128) (q : Fin 7) (w : BitVec 32) (e : w = argT m c a q) (h : w.toNat < 32000) :
    ((z c a ⟨w.toNat, h⟩ - Stat.lse (z c a) : ℝ) : EReal) = out8 m z c (ix2 a q) := by
  subst e
  have h8 : out8 m z c (ix2 a q) = if h : (argT m c a q).toNat < 32000 then ((z c a ⟨(argT m c a q).toNat, h⟩ - Stat.lse (z c a) : ℝ) : EReal) else 0 := rfl
  rw [h8, dif_pos h]

include hz in
/-- What the last point stores in window 8, at an index. -/
theorem last_outC_tlp (c : Dev nD) (t : Fin cfg0.N) (h0 : ¬t.val % 25 = 0) (h1 : t.val % 25 = 24) (x9 : Vec Ideal S64x2x4096 .bf16) (x10 : Vec Ideal S32000x128 .f32) (x11 : Vec Ideal S896x128 .f32)
    (x12 x13 x14 x15 : Vec Ideal S128x256 .f32) (hI : Inv (argX m c) (lg m c) (z c) t.val x9 x10 x12 x13 x14 x15)
    (f : Buf (Elt Ideal) ((ms8 t).view.loc (c : Thread nD τ))) (a : Fin 128) (q : Fin 7) :
    (ms8 t).view.read (Elt Ideal) ((ms8 t).view.writes (Elt Ideal) f (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).2.2.1) (ix2 a q) = out8 m z c (ix2 a q) := by
  have hx4 : iblk m c 4 t = iblk m c 1 t := by funext y; idx_vars y; exact (iblk4_at m c t _ _).trans (iblk1_at m c t _ _).symm
  refine (outC_tlp c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 2 t) (iblk m c 3 t) (iblk m c 4 t) (iblk m c 5 t) (argX m c) (argXS m c) (argW m c) (argS m c) (z c) (hz c) (iblk0_at m c t) (iblk3_at m c t) (iblk5_at m c t) ⟨iblk m c 1 t, hw c t⟩ (by rw [coord]; have hN : t.val < 25 := lt_of_lt_of_eq t.isLt (show cfg0.N = 25 from N_0); omega) _ _ x9 x10 x11 x12 x13 x14 x15 (inv_at hI (coord t).symm) hx4 f a q).trans ?_
  have e : iblk m c 1 t (ix2 a q) = argT m c a q := iblk1_at m c t a q
  exact tlp_eq m z c a q _ e _

set_option maxHeartbeats 4000000 in
include hz hw in
/-- The body at the last point. -/
theorem sound_last (c : Dev nD) (t : Fin cfg0.N) (h0 : ¬t.val % 25 = 0) (h1 : t.val % 25 = 24) :
    bodyPre m z c t ⊢ wp frame (wpE (defs₀ (F := Ideal)) Variants.none c none) Set.univ (bodyAt0 t) (fun _ => bodyPost m z c t) := by
  unfold bodyPre bodyPost bodyAt0
  simp only [before0_0, before0_1, before0_2, before0_3, before0_4, before0_5, leaves0_0, leaves0_1, leaves0_2, leaves0_3, leaves0_4, leaves0_5]
  rw [leaves0_6 m z c t h1, leaves0_7 m z c t h1, leaves0_8 m z c t h1]
  rw [show (dats m z 0 c).Φ t.succ = Phi m z c (t.val + 1) from rfl,
    show (dats m z 0 c).owesAt () t.succ = (dats m z 0 c).owesAt () t.castSucc from rfl,
    show (dats m z 0 c).Φ t.castSucc = Phi m z c t.val from rfl]
  have hN : t.val < 25 := lt_of_lt_of_eq t.isLt (show cfg0.N = 25 from N_0)
  unfold Phi
  iintro ⟨⟨%x9, %x10, %x12, %x13, %x14, %x15, S9, S10, ⟨%x11, S11⟩, S12, S13, S14, S15, Hg, %hI⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H0, H1, H2, H3, H4, H5, ⟨%e6, H6⟩, ⟨%e7, H7⟩, ⟨%e8, H8⟩, S9, S10, ⟨%e11, S11⟩, ⟨%e12, S12⟩, ⟨%e13, S13⟩, ⟨%e14, S14⟩, ⟨%e15, S15⟩⟩
  isplitl [S9 S10 S11 S12 S13 S14 S15 Hg]
  · iexists _; iexists _; iexists _; iexists _; iexists _; iexists _
    isplitl [S9]
    · iexact S9
    isplitl [S10]
    · unfold owns; iexists _; isplitr; swap; · iexact S10
      ipureintro; rfl
    isplitl [S11]
    · iexists _; unfold owns; iexists _; isplitr; swap; · iexact S11
      ipureintro; rfl
    isplitl [S12]
    · unfold owns; iexists _; isplitr; swap; · iexact S12
      ipureintro; rfl
    isplitl [S13]
    · unfold owns; iexists _; isplitr; swap; · iexact S13
      ipureintro; rfl
    isplitl [S14]
    · unfold owns; iexists _; isplitr; swap; · iexact S14
      ipureintro; rfl
    isplitl [S15]
    · unfold owns; iexists _; isplitr; swap; · iexact S15
      ipureintro; rfl
    isplitl [Hg]; · iexact Hg
    ipureintro
    intro h; omega
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro
    funext y; idx_vars y
    exact last_outC_ent m z hz hw c t h0 h1 x9 x10 x11 x12 x13 x14 x15 (hI hN) e6 _ _
  isplitl [H7]
  · unfold owns; iexists _; isplitr; swap; · iexact H7
    ipureintro
    funext y; idx_vars y
    exact last_outC_var m z hz hw c t h0 h1 x9 x10 x11 x12 x13 x14 x15 (hI hN) e7 _ _
  unfold owns; iexists _; isplitr; swap; · iexact H8
  ipureintro
  funext y; idx_vars y
  exact last_outC_tlp m z hz hw c t h0 h1 x9 x10 x11 x12 x13 x14 x15 (hI hN) e8 _ _

include hz hw in
/-- The body at any point. -/
theorem sound_body (c : Dev nD) (t : Fin cfg0.N) :
    bodyPre m z c t ⊢ wp frame (wpE (defs₀ (F := Ideal)) Variants.none c none) Set.univ (bodyAt0 t) (fun _ => bodyPost m z c t) := by
  by_cases h0 : t.val % 25 = 0
  · exact sound_first m z hz c t h0
  · by_cases h1 : t.val % 25 = 24
    · exact sound_last m z hz hw c t h0 h1
    · exact sound_middle m z hz c t h0 h1

include hz hw in
/-- The library's body obligation. -/
theorem body_obligation (c : Dev nD) : BodyObligation (dats m z 0 c) (defs₀ (F := Ideal)) Variants.none () Set.univ := fun t => by
  rw [bigSep_W0, bigSep_W0, defs₀_row]
  exact triple_restated (sound_body m z hz hw c t) rfl .rfl fun _ => .rfl

/-- The launch hands the first point what it needs. -/
theorem hin (c : Dev nD) : (Pipeline.ΦA spec0 c : sProp 𝕄) ⊢ (dats m z 0 c).Φ 0 := by
  rw [PhiA_eq, show (dats m z 0 c).Φ 0 = Phi m z c 0 from rfl]
  unfold Phi
  iintro ⟨⟨⟨%x9, S9⟩, ⟨%x10, S10⟩, S11, ⟨%x12, S12⟩, ⟨%x13, S13⟩, ⟨%x14, S14⟩, ⟨%x15, S15⟩⟩, Hg⟩
  iexists x9; iexists x10; iexists x12; iexists x13; iexists x14; iexists x15
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [Hg]; · iexact Hg
  ipureintro
  intro _ h
  exact absurd rfl h

/-- The last point hands back what the launch takes. -/
theorem hout (c : Dev nD) : (dats m z 0 c).Φ (Fin.last cfg0.N) ⊢ (Pipeline.ΦA spec0 c : sProp 𝕄) := by
  rw [PhiA_eq, show (dats m z 0 c).Φ (Fin.last cfg0.N) = Phi m z c 25 from by dsimp only [dats]; rw [Fin.val_last, show cfg0.N = 25 from N_0]]
  unfold Phi
  iintro ⟨%x9, %x10, %x12, %x13, %x14, %x15, S9, S10, S11, S12, S13, S14, S15, Hg, %hI⟩
  isplitr [Hg]
  · isplitl [S9]; · iexists _; iexact S9
    isplitl [S10]; · iexists _; iexact S10
    isplitl [S11]; · iexact S11
    isplitl [S12]; · iexists _; iexact S12
    isplitl [S13]; · iexists _; iexact S13
    isplitl [S14]; · iexists _; iexact S14
    iexists _; iexact S15
  iexact Hg

set_option backward.isDefEq.respectTransparency.types false in
set_option maxHeartbeats 800000 in
include hz hw in
/-- The launch: every run ends with the buffers as the proof data says and every semaphore counter at zero. -/
theorem run_quiescent : θ_run defs (onTc (τ := τ) (main (F := Ideal))) ⟨m, fun _ => 0, ρ⟩ (fun r =>
    (Pipeline.FramePost cfgs (dats m z) 0 (Pipeline.afterTail₀ cfgs (dats m z) 0 (V0 m) [hostOps1])) r ∧ r.2.sem = fun _ => 0) :=
  Pipeline.θ_run_frame_around_track_shared (Q' := _) cfgs (dats m z) (0 : Fin 1) launch₀0 defs₀ Variants.none m ρ main
    (hbody := fun c => (body_obligation m z hz hw c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m z) (hin := hin m z) (hout := hout m z)

end Cert.KernelIdeal.Gen.Exact

end
-- ==== Proof.PI.Result.lean ====
module

public import proofs.«01_k».proof.Proof.PI.Exact
public import Idealize.ShloMosaic.Lib.Pipeline.ValueKit
public import Idealize.ShloMosaic.Lib.Pointwise

@[expose] public section

set_option maxRecDepth 16384

noncomputable section

namespace Cert.KernelIdeal.Gen.Exact

open Idealize.ShloMosaic Idealize.ShloMosaic.TcCoe Idealize.ShloMosaic.Tactic Idealize.SL.Sem

variable (m : (ℓ : Loc nD τ sig) → Buf (Elt Ideal) ℓ) (ρ : Dev nD → PrngReg)
variable (z : Dev nD → Fin 128 → Fin 32000 → ℝ)

/-- The last point of the grid. -/
def tEnd : Fin cfg0.N := ⟨24, by rw [show cfg0.N = 25 from N_0]; decide⟩

theorem whole6 : (cfg0.win 6).WholeAt tEnd := by decide +kernel
theorem whole7 : (cfg0.win 7).WholeAt tEnd := by decide +kernel
theorem whole8 : (cfg0.win 8).WholeAt tEnd := by decide +kernel

/-- The array of entropies after the region. -/
theorem arr6 (c : Dev nD) : (dats m z 0 c).arrAt 6 cfg0.N = out6 z c := by
  refine (dats m z 0 c).arrAt_eq_of_after_last 6 tEnd whole6 _ fun j => ?_
  blk_simp
  rfl
/-- The array of variances after the region. -/
theorem arr7 (c : Dev nD) : (dats m z 0 c).arrAt 7 cfg0.N = out7 z c := by
  refine (dats m z 0 c).arrAt_eq_of_after_last 7 tEnd whole7 _ fun j => ?_
  blk_simp
  rfl
/-- The array of target log-probabilities after the region. -/
theorem arr8 (c : Dev nD) : (dats m z 0 c).arrAt 8 cfg0.N = out8 m z c := by
  refine (dats m z 0 c).arrAt_eq_of_after_last 8 tEnd whole8 _ fun j => ?_
  blk_simp
  rfl

/-- A window's array as the lines after the region find it. -/
theorem exit_arr (c : Dev nD) (w : Fin cfg0.W) :
    Pipeline.withArrays cfg0.spec c (V0 m c) (fun w => (dats m z 0 c).arrAt w cfg0.N) (Proc.devRef .tc (Pipeline.arrRef cfg0.spec w)) = (dats m z 0 c).arrAt w cfg0.N :=
  (dats m z 0 c).withArrays_arrAt sharedIn0 (V0 m c) (A_eq m z c) w

/-- The first result after the lines that follow the region. -/
theorem tail8 (c : Dev nD) : Pipeline.afterTail₀ cfgs (dats m z) 0 (V0 m) [hostOps1] c main_v8 = shapeCast S1x128 (out6 z c) shapeCasts_S128x1_S1x128 := by
  have e := (exit_arr m z c 6).trans (arr6 m z c)
  unfold Pipeline.afterTail₀
  generalize hW : Pipeline.withArrays (cfgs 0).spec c (V0 m c) (fun w => (dats m z 0 c).arrAt w (cfgs 0).N) = W
  have e' : W (Proc.devRef .tc main_v7_0) = out6 z c := by rw [← hW]; exact e
  simp only [hostOps1, List.flatten_cons, List.flatten_nil, List.append_nil, List.cons_append, List.nil_append]
  rw [← e']
  after_results_simp <;> rfl
/-- The second result after the lines that follow the region. -/
theorem tail9 (c : Dev nD) : Pipeline.afterTail₀ cfgs (dats m z) 0 (V0 m) [hostOps1] c main_v9 = shapeCast S1x128 (out7 z c) shapeCasts_S128x1_S1x128 := by
  have e := (exit_arr m z c 7).trans (arr7 m z c)
  unfold Pipeline.afterTail₀
  generalize hW : Pipeline.withArrays (cfgs 0).spec c (V0 m c) (fun w => (dats m z 0 c).arrAt w (cfgs 0).N) = W
  have e' : W (Proc.devRef .tc main_v7_1) = out7 z c := by rw [← hW]; exact e
  simp only [hostOps1, List.flatten_cons, List.flatten_nil, List.append_nil, List.cons_append, List.nil_append]
  rw [← e']
  after_results_simp <;> rfl
/-- The third result after the lines that follow the region. -/
theorem tail10 (c : Dev nD) : Pipeline.afterTail₀ cfgs (dats m z) 0 (V0 m) [hostOps1] c main_v10 = shapeCast S1x128x7 (out8 m z c) shapeCasts_S128x7_S1x128x7 := by
  have e := (exit_arr m z c 8).trans (arr8 m z c)
  unfold Pipeline.afterTail₀
  generalize hW : Pipeline.withArrays (cfgs 0).spec c (V0 m c) (fun w => (dats m z 0 c).arrAt w (cfgs 0).N) = W
  have e' : W (Proc.devRef .tc main_v7_2) = out8 m z c := by rw [← hW]; exact e
  simp only [hostOps1, List.flatten_cons, List.flatten_nil, List.append_nil, List.cons_append, List.nil_append]
  rw [← e']
  after_results_simp <;> rfl

/-- The first result at a token: the entropy of its logits. -/
theorem res8_at (c : Dev nD) (t : Fin 128) : shapeCast S1x128 (out6 z c) shapeCasts_S128x1_S1x128 (ix2 (0 : Fin 1) t) = ((Stat.entropy (z c t) : ℝ) : EReal) := by
  have h : shapeCast S1x128 (out6 z c) shapeCasts_S128x1_S1x128 (ix2 (0 : Fin 1) t) = out6 z c (ix2 t (0 : Fin 1)) := by pointwise
  rw [h]; rfl
/-- The second result at a token: the variance of its logits. -/
theorem res9_at (c : Dev nD) (t : Fin 128) : shapeCast S1x128 (out7 z c) shapeCasts_S128x1_S1x128 (ix2 (0 : Fin 1) t) = ((Stat.variance (z c t) : ℝ) : EReal) := by
  have h : shapeCast S1x128 (out7 z c) shapeCasts_S128x1_S1x128 (ix2 (0 : Fin 1) t) = out7 z c (ix2 t (0 : Fin 1)) := by pointwise
  rw [h]; rfl
/-- The third result at a target: its logit less the logarithm of the sum of the exponentials. -/
theorem res10_at (c : Dev nD) (t : Fin 128) (q : Fin 7) (h : (argT m c t q).toNat < 32000) :
    shapeCast S1x128x7 (out8 m z c) shapeCasts_S128x7_S1x128x7 (ix3 (0 : Fin 1) t q) = ((z c t ⟨(argT m c t q).toNat, h⟩ - Stat.lse (z c t) : ℝ) : EReal) := by
  have e : shapeCast S1x128x7 (out8 m z c) shapeCasts_S128x7_S1x128x7 (ix3 (0 : Fin 1) t q) = out8 m z c (ix2 t q) := by pointwise
  rw [e]
  exact dif_pos h

variable (hz : ∀ c t v, logit (argX m c) (argXS m c) (argW m c) (argS m c) t v = (z c t v : EReal)) (hw : InRange m)

include hz hw in
/-- The kernel's run: the three results, and the arguments unchanged. -/
theorem run_results : θ_run defs (onTc (τ := τ) (main (F := Ideal))) ⟨m, fun _ => 0, ρ⟩ (fun r => ∀ c : Dev nD,
      r.2.mem ((c.tc : Thread nD τ).loc main_v8) = shapeCast S1x128 (out6 z c) shapeCasts_S128x1_S1x128
      ∧ r.2.mem ((c.tc : Thread nD τ).loc main_v9) = shapeCast S1x128 (out7 z c) shapeCasts_S128x1_S1x128
      ∧ r.2.mem ((c.tc : Thread nD τ).loc main_v10) = shapeCast S1x128x7 (out8 m z c) shapeCasts_S128x7_S1x128x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.rest_eq c main_v8 (by decide)).trans (tail8 m z c),
    (h.1.rest_eq c main_v9 (by decide)).trans (tail9 m z c),
    (h.1.rest_eq c main_v10 (by decide)).trans (tail10 m z c),
    (h.1.rest_eq c main_arg0 (by decide)).trans (W_main_arg0 m (dats m z) c),
    (h.1.rest_eq c main_arg1 (by decide)).trans (W_main_arg1 m (dats m z) c),
    (h.1.rest_eq c main_arg2 (by decide)).trans (W_main_arg2 m (dats m z) c),
    (h.1.rest_eq c main_arg3 (by decide)).trans (W_main_arg3 m (dats m z) c),
    (h.1.rest_eq c main_arg4 (by decide)).trans (W_main_arg4 m (dats m z) c)⟩) (run_quiescent m ρ z hz hw)

end Cert.KernelIdeal.Gen.Exact

end
-- ==== Proof.Alg.lean ====
module

public import proofs.«01_k».proof.Proof.PreDomain
public import proofs.«01_k».proof.Proof.Ref
public import proofs.«01_k».proof.Proof.Gen.ReferenceIdeal.Run
public import proofs.«01_k».proof.Proof.PI.Result
public import proofs.«01_k».proof.Proof.PI.Range
public import Idealize.ShloMosaic.Lib.Quiescent

@[expose] public section

set_option maxRecDepth 16384

noncomputable section

namespace Cert.ReferenceIdeal.Value

open Cert.ReferenceIdeal Cert.ReferenceIdeal.Gen Idealize.ShloMosaic Idealize.ShloMosaic.TcCoe

section
variable (m : (ℓ : Loc nD τ sig) → Buf (Elt Ideal) ℓ) (c : Dev nD)
    (a0 : FVec Ideal S1x128x4096 .f32) (a1 : FVec Ideal S1x128 .f32) (a2 : FVec Ideal S32000x4096 .f32) (a3 : FVec Ideal S250x32 .f32) (a4 : IVec S1x128x7 32)
    (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = a3) (h4 : m ((c.tc : Thread nD τ).loc main_arg4) = a4)

include h0 h1 h2 h3 in
/-- The first result of the reference's run is the entropy of the arguments. -/
theorem res16 : res_main_v16 m c = entV (lpV (zV a0 a1 a2 a3)) := by
  subst h0 h1 h2 h3
  unfold res_main_v16 entV lpV shV subV topV mxV zV
  rfl
include h0 h1 h2 h3 in
/-- The second result of the reference's run is the variance of the arguments. -/
theorem res22 : res_main_v22 m c = varV (lpV (zV a0 a1 a2 a3)) := by
  subst h0 h1 h2 h3
  unfold res_main_v22 varV devV entV lpV shV subV topV mxV zV
  rfl
include h0 h1 h2 h3 h4 in
/-- The third result of the reference's run is the log-probabilities of the targets. -/
theorem res23 : res_main_v23 m c = tlpV (lpV (zV a0 a1 a2 a3)) a4 := by
  subst h0 h1 h2 h3 h4
  unfold res_main_v23 tlpV okV wrapV lpV shV subV topV mxV zV
  rfl
end

end Cert.ReferenceIdeal.Value

namespace Cert.Proof.Alg

open Cert.KernelIdeal Cert.KernelIdeal.Gen Cert.KernelIdeal.Gen.Exact Idealize.ShloMosaic Idealize.ShloMosaic.TcCoe Idealize.SL.Sem

/-- A logit of real arguments is a real number. -/
theorem logit_real (X : Fin 128 → Fin 4096 → EReal) (XS : Fin 128 → EReal) (W : Fin 32000 → Fin 4096 → EReal) (S : Fin 250 → Fin 32 → EReal)
    (hX : ∀ t k, ∃ r : ℝ, X t k = (r : EReal)) (hXS : ∀ t, ∃ r : ℝ, XS t = (r : EReal)) (hW : ∀ v k, ∃ r : ℝ, W v k = (r : EReal))
    (hS : ∀ a b, ∃ r : ℝ, S a b = (r : EReal)) (t : Fin 128) (v : Fin 32000) : ∃ r : ℝ, logit X XS W S t v = (r : EReal) := by
  choose x hx using hX
  choose xs hxs using hXS
  choose w hw using hW
  choose s hs using hS
  unfold logit
  refine ⟨(∑ K : Fin 4096, x t K * (w v K * s ⟨v.val / 128, by omega⟩ ⟨K.val / 128, by omega⟩)) * xs t, ?_⟩
  rw [EReal.coe_mul, Cert.Stat.coe_sum, hxs]
  refine congrArg (fun y : EReal => y * (xs t : EReal)) (Finset.sum_congr rfl fun K _ => ?_)
  rw [hx, hw, hs, EReal.coe_mul, EReal.coe_mul]

variable (m : (ℓ : Loc nD τ sig) → Buf (Elt Ideal) ℓ)

/-- The logits of the arguments as real numbers. -/
def zr (c : Dev nD) (t : Fin 128) (v : Fin 32000) : ℝ := (logit (argX m c) (argXS m c) (argW m c) (argS m c) t v).toReal

section
variable (hd : ∀ c : Dev nD, (∀ i, ∃ r : ℝ, (show FVec Ideal S1x128x4096 .f32 from m ((c.tc : Thread nD τ).loc main_arg0)) i = (r : EReal))
  ∧ (∀ i, ∃ r : ℝ, (show FVec Ideal S1x128 .f32 from m ((c.tc : Thread nD τ).loc main_arg1)) i = (r : EReal))
  ∧ (∀ i, ∃ r : ℝ, (show FVec Ideal S32000x4096 .f32 from m ((c.tc : Thread nD τ).loc main_arg2)) i = (r : EReal))
  ∧ (∀ i, ∃ r : ℝ, (show FVec Ideal S250x32 .f32 from m ((c.tc : Thread nD τ).loc main_arg3)) i = (r : EReal))
  ∧ ∀ i, ((show IVec S1x128x7 32 from m ((c.tc : Thread nD τ).loc main_arg4)) i).toNat < 32000)
include hd

/-- The real logits are the logits. -/
theorem hz (c : Dev nD) (t : Fin 128) (v : Fin 32000) : logit (argX m c) (argXS m c) (argW m c) (argS m c) t v = (zr m c t v : EReal) := by
  obtain ⟨hX, hXS, hW, hS, _⟩ := hd c
  obtain ⟨r, hr⟩ := logit_real (argX m c) (argXS m c) (argW m c) (argS m c) (fun t k => hX _) (fun t => hXS _) (fun v k => hW _) (fun a b => hS _) t v
  unfold zr
  rw [hr, EReal.toReal_coe]

/-- The reference's logits are the real logits. -/
theorem ref_z (c : Dev nD) (t : Fin 128) (v : Fin 32000) :
    Cert.ReferenceIdeal.Value.zV (m ((c.tc : Thread nD τ).loc main_arg0)) (m ((c.tc : Thread nD τ).loc main_arg1)) (m ((c.tc : Thread nD τ).loc main_arg2)) (m ((c.tc : Thread nD τ).loc main_arg3)) (ix3 (0 : Fin 1) t v)
      = (zr m c t v : EReal) := by
  rw [← hz m hd c t v]
  exact Cert.ReferenceIdeal.Value.zV_at _ _ _ _ t v

/-- The reference's log-probabilities are the real logits less the logarithm of the sum of their exponentials. -/
theorem ref_lp (c : Dev nD) (t : Fin 128) (v : Fin 32000) :
    Cert.ReferenceIdeal.Value.lpV (Cert.ReferenceIdeal.Value.zV (m ((c.tc : Thread nD τ).loc main_arg0)) (m ((c.tc : Thread nD τ).loc main_arg1)) (m ((c.tc : Thread nD τ).loc main_arg2)) (m ((c.tc : Thread nD τ).loc main_arg3))) (ix3 (0 : Fin 1) t v)
      = ((zr m c t v - Cert.Stat.lse (zr m c t) : ℝ) : EReal) :=
  Cert.ReferenceIdeal.Value.lpV_at _ (zr m c) (ref_z m hd c) t v

/-- The reference's entropies are the kernel's. -/
theorem eq_ent (c : Dev nD) :
    Cert.ReferenceIdeal.Value.entV (Cert.ReferenceIdeal.Value.lpV (Cert.ReferenceIdeal.Value.zV (m ((c.tc : Thread nD τ).loc main_arg0)) (m ((c.tc : Thread nD τ).loc main_arg1)) (m ((c.tc : Thread nD τ).loc main_arg2)) (m ((c.tc : Thread nD τ).loc main_arg3))))
      = shapeCast S1x128 (out6 (zr m) c) shapeCasts_S128x1_S1x128 := by
  funext i
  obtain ⟨a, t, rfl⟩ : ∃ (a : Fin 1) (t : Fin 128), i = ix2 a t := ⟨i 0, i 1, eq_ix2 i⟩
  obtain rfl : a = 0 := Subsingleton.elim _ _
  exact (Cert.ReferenceIdeal.Value.entV_at _ (zr m c) (ref_lp m hd c) t).trans (res8_at (zr m) c t).symm

/-- The reference's variances are the kernel's. -/
theorem eq_var (c : Dev nD) :
    Cert.ReferenceIdeal.Value.varV (Cert.ReferenceIdeal.Value.lpV (Cert.ReferenceIdeal.Value.zV (m ((c.tc : Thread nD τ).loc main_arg0)) (m ((c.tc : Thread nD τ).loc main_arg1)) (m ((c.tc : Thread nD τ).loc main_arg2)) (m ((c.tc : Thread nD τ).loc main_arg3))))
      = shapeCast S1x128 (out7 (zr m) c) shapeCasts_S128x1_S1x128 := by
  funext i
  obtain ⟨a, t, rfl⟩ : ∃ (a : Fin 1) (t : Fin 128), i = ix2 a t := ⟨i 0, i 1, eq_ix2 i⟩
  obtain rfl : a = 0 := Subsingleton.elim _ _
  exact (Cert.ReferenceIdeal.Value.varV_at _ (zr m c) (ref_lp m hd c) t).trans (res9_at (zr m) c t).symm

/-- The reference's log-probabilities of the targets are the kernel's. -/
theorem eq_tlp (c : Dev nD) :
    Cert.ReferenceIdeal.Value.tlpV (Cert.ReferenceIdeal.Value.lpV (Cert.ReferenceIdeal.Value.zV (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4))
      = shapeCast S1x128x7 (out8 m (zr m) c) shapeCasts_S128x7_S1x128x7 := by
  funext i
  obtain ⟨a, t, q, rfl⟩ : ∃ (a : Fin 1) (t : Fin 128) (q : Fin 7), i = ix3 a t q := ⟨i 0, i 1, i 2, eq_ix3 i⟩
  obtain rfl : a = 0 := Subsingleton.elim _ _
  have hT := (hd c).2.2.2.2
  exact (Cert.ReferenceIdeal.Value.tlpV_at _ _ hT t q).trans ((ref_lp m hd c t _).trans (res10_at m (zr m) c t q (hT _)).symm)
end

/-- The kernel and the reference end with equal results. -/
theorem algebraic : Cert.algebraic_KernelIdeal_ReferenceIdeal_pre_in_domain := by
  intro m g m' g' hpre hargs
  have hd := fun c => Cert.Pre.domain _ _ _ _ _ (hpre c)
  refine ⟨fun c => shapeCast S1x128 (out6 (zr m) c) shapeCasts_S128x1_S1x128, fun c => shapeCast S1x128 (out7 (zr m) c) shapeCasts_S128x1_S1x128,
    fun c => shapeCast S1x128x7 (out8 m (zr m) c) shapeCasts_S128x7_S1x128x7,
    run_results m g (zr m) (hz m hd) (inRange_of m fun c i => (hd c).2.2.2.2 i), ?_⟩
  refine (θ_run Cert.ReferenceIdeal.defs _ _).mono (fun r h c => ?_) (Cert.ReferenceIdeal.Value.run (F := Ideal) m' g')
  obtain ⟨e0, e1, e2, e3, e4⟩ := hargs c
  exact ⟨(h c).1.trans ((Cert.ReferenceIdeal.Value.res16 m' c _ _ _ _ e0 e1 e2 e3).trans (eq_ent m hd c)),
    (h c).2.1.trans ((Cert.ReferenceIdeal.Value.res22 m' c _ _ _ _ e0 e1 e2 e3).trans (eq_var m hd c)),
    (h c).2.2.1.trans ((Cert.ReferenceIdeal.Value.res23 m' c _ _ _ _ _ e0 e1 e2 e3 e4).trans (eq_tlp m hd c)),
    (h c).2.2.2⟩

end Cert.Proof.Alg

end
-- ==== Proof.P.RunA.lean ====
module

public import proofs.«01_k».proof.Proof.Gen.Kernel.Frame
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The body's first branch is taken: the grid coordinate is the first. -/
abbrev condFirst (i : grid0.Coords) : Prop := (Scalar.cmpi .ne (Scalar.extui (Scalar.cmpi .eq (BitVec.ofNat 32 (i 0).val) 0#32)) 0#32) = 1#1
/-- The body's second branch is taken: the grid coordinate is the last. -/
abbrev condLast (i : grid0.Coords) : Prop := k0_cond2 i = 1#1

set_option maxHeartbeats 12000000 in
/-- The body's run at the first grid point: the body initializes the activation scratch and the running statistics, then folds in five vocabulary tiles. The witness lists the pieces each written buffer ends with. -/
noncomputable def runA (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : condFirst i) (hc1 : ¬condLast i)
    (x0 : Vec F S250x32 .f32) (x1 : Vec F S128x7 .i32) (x2 : Vec F S128x4096 .fp8e4m3) (x3 : Vec F S128x1 .f32) (x4 : Vec F S128x7 .i32) (x5 : Vec F S1280x4096 .fp8e4m3) (xz : Vec F S32000x128 .f32) :
    Σ' (Lxb : List (View.Piece (Elt F) S64x4096 .i32)), Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (xb : Vec F S64x4096 .i32) (xg : Vec F S896x128 .f32) (xm : Vec F S128x256 .f32) (xs : Vec F S128x256 .f32) (xa : Vec F S128x256 .f32) (xv : Vec F S128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ (∃ f, arg10.view.loc (c : Thread nD τ) ↦[arg10.view.set]{fullShare} arg10.view.writes (Elt F) f Lxb) ∗ (arg11.view.loc (c : Thread nD τ) ↦[arg11.view.set]{fullShare} arg11.view.writes (Elt F) (harg11.unread xz) Lxz) ∗ owns (c : Thread nD τ) arg12 fullShare xg ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun y6 y7 y8 xb xg xm xs xa xv E K => ?run⟩
  case run =>
    simp only [cc0_lm_head_entropy_eq_skeleton]; unfold cc0_lm_head_entropy_skel
    simp only [k0_part92_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexact H10
    isplitl [H11]
    · iexists _; isplitr; · ipureintro; exact harg12.read_unread _
      iexact H11
    isplitl [H12]
    · iexists _; iexact H12
    isplitl [H13]
    · iexists _; iexact H13
    isplitl [H14]
    · iexists _; iexact H14
    iexists _; iexact H15

end Cert.Kernel.Gen

end
-- ==== Proof.P.RunB.lean ====
module

public import proofs.«01_k».proof.Proof.Gen.Kernel.Frame
public import proofs.«01_k».proof.Proof.Gen.Kernel.Loops
public import proofs.«01_k».proof.Proof.P.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 12000000 in
/-- The body's run at a grid point that is neither the first nor the last: the body folds five vocabulary tiles into the running statistics. The witness lists the pieces each written buffer ends with. -/
noncomputable def runB (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : ¬condFirst i) (hc1 : ¬condLast i)
    (x0 : Vec F S250x32 .f32) (x1 : Vec F S128x7 .i32) (x2 : Vec F S128x4096 .fp8e4m3) (x3 : Vec F S128x1 .f32) (x4 : Vec F S128x7 .i32) (x5 : Vec F S1280x4096 .fp8e4m3) (xb : Vec F S64x4096 .i32) (xz : Vec F S32000x128 .f32) (xm : Vec F S128x256 .f32) (xs : Vec F S128x256 .f32) (xa : Vec F S128x256 .f32) (xv : Vec F S128x256 .f32) :
    Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (xg : Vec F S896x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ (arg11.view.loc (c : Thread nD τ) ↦[arg11.view.set]{fullShare} arg11.view.writes (Elt F) (harg11.unread xz) Lxz) ∗ owns (c : Thread nD τ) arg12 fullShare xg ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun y6 y7 y8 xg E K => ?run⟩
  case run =>
    simp only [cc0_lm_head_entropy_eq_skeleton]; unfold cc0_lm_head_entropy_skel
    simp only [k0_part92_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexact H10
    isplitl [H11]
    · iexists _; isplitr; · ipureintro; exact harg12.read_unread _
      iexact H11
    isplitl [H12]
    · iexists _; iexact H12
    isplitl [H13]
    · iexists _; iexact H13
    isplitl [H14]
    · iexists _; iexact H14
    iexists _; iexact H15

end Cert.Kernel.Gen

end
-- ==== Proof.P.Loop.lean ====
module

public import proofs.«01_k».proof.Proof.P.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The row of the logit scratch that the gather reads for the word `v` on trip `k`, as the kernel computes it. -/
abbrev rowOff (k : Fin k0_t1_loop.trips) (v : BitVec 32) : Fin 2 → Nat := k0_off35 k v

/-- The loop runs over the 128 rows. -/
theorem trips_eq : k0_t1_loop.trips = 128 := by decide

/-- The row read for a target in range, as a natural number. -/
theorem rowOff_eq (k : Fin k0_t1_loop.trips) (v : BitVec 32) (hv : v.toNat < 32000) : rowOff k v = ![v.toNat / 128 * 128 + k.val, 0] := by
  have hk : k.val < 128 := trips_eq ▸ k.isLt
  have e : (Scalar.indexCast (Scalar.addi (Scalar.muli (Scalar.shrui v 7#32) 128#32) (Scf.iv 0#32 1#32 k.val)) : Index).toNat = v.toNat / 128 * 128 + k.val := by
    have e1 : (Scalar.shrui v 7#32).toNat = v.toNat / 128 := by
      simp [Scalar.shrui, IntOp.shrui, Nat.shiftRight_eq_div_pow]
    have e2 : (Scalar.muli (Scalar.shrui v 7#32) 128#32).toNat = v.toNat / 128 * 128 := by
      show (Scalar.shrui v 7#32 * 128#32).toNat = _
      rw [BitVec.toNat_mul, e1]; show v.toNat / 128 * 128 % 2 ^ 32 = _; omega
    have e3 : (Scf.iv 0#32 1#32 k.val).toNat = k.val := by
      simp [Scf.iv]; omega
    show (Scalar.muli (Scalar.shrui v 7#32) 128#32 + Scf.iv 0#32 1#32 k.val).toNat = _
    rw [BitVec.toNat_add, e2, e3]; omega
  show ![_, 0] = _
  exact congrArg (fun n : Nat => (![n, 0] : Fin 2 → Nat)) e

/-- The row read for a target in range lies in the logit scratch. -/
theorem rowOff_inb (k : Fin k0_t1_loop.trips) (v : BitVec 32) (hv : v.toNat < 32000) : ∀ a, rowOff k v a + S1x128.size a ≤ S32000x128.size a := by
  have hk : k.val < 128 := trips_eq ▸ k.isLt
  rw [rowOff_eq k v hv]
  intro a; fin_cases a
  · show v.toNat / 128 * 128 + k.val + 1 ≤ 32000; omega
  · show 0 + 128 ≤ 128; omega

/-! The body's check before each of its seven gathers holds when the word it read is in range. -/
theorem chk1_of_lt (i : grid0.Coords) (k : Fin k0_t1_loop.trips) (v : BitVec 32) (hv : v.toNat < 32000) : k0_chk1 i k v := by
  unfold k0_chk1; intro _; exact rowOff_inb k v hv
theorem chk2_of_lt (i : grid0.Coords) (k : Fin k0_t1_loop.trips) (v : BitVec 32) (hv : v.toNat < 32000) : k0_chk2 i k v := by
  unfold k0_chk2; intro _; exact rowOff_inb k v hv
theorem chk3_of_lt (i : grid0.Coords) (k : Fin k0_t1_loop.trips) (v : BitVec 32) (hv : v.toNat < 32000) : k0_chk3 i k v := by
  unfold k0_chk3; intro _; exact rowOff_inb k v hv
theorem chk4_of_lt (i : grid0.Coords) (k : Fin k0_t1_loop.trips) (v : BitVec 32) (hv : v.toNat < 32000) : k0_chk4 i k v := by
  unfold k0_chk4; intro _; exact rowOff_inb k v hv
theorem chk5_of_lt (i : grid0.Coords) (k : Fin k0_t1_loop.trips) (v : BitVec 32) (hv : v.toNat < 32000) : k0_chk5 i k v := by
  unfold k0_chk5; intro _; exact rowOff_inb k v hv
theorem chk6_of_lt (i : grid0.Coords) (k : Fin k0_t1_loop.trips) (v : BitVec 32) (hv : v.toNat < 32000) : k0_chk6 i k v := by
  unfold k0_chk6; intro _; exact rowOff_inb k v hv
theorem chk7_of_lt (i : grid0.Coords) (k : Fin k0_t1_loop.trips) (v : BitVec 32) (hv : v.toNat < 32000) : k0_chk7 i k v := by
  unfold k0_chk7; intro _; exact rowOff_inb k v hv

/-- Target words in range. -/
abbrev Words (F : FTy → Type) [BitOps F] : Type := { X : Vec F S128x7 .i32 // ∀ y, (show BitVec 32 from X y).toNat < 32000 }

set_option maxHeartbeats 4000000 in
/-- One trip of the gather loop: the pieces it writes to the gather scratch. -/
noncomputable def trip (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (k : Fin k0_t1_loop.trips) :
    { L : List (View.Piece (Elt F) S896x128 .f32) //
      ∀ (g : Buf (Elt F) (arg12.view.loc (c : Thread nD τ))) (E : Set ℕ) (K : Unit → sProp 𝕄),
        iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} g) ∗ (iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} arg12.view.writes (Elt F) g L)) -∗ K ⟨⟩))
          ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 k ⟨⟩) K } := by
  have rd : ∀ (r : Rect S128x7) (y : r.shape.Idx), (show BitVec 32 from arg2.view.readAt (Elt F) r.toLoadRect (harg2.unread X.1) y).toNat < 32000 := fun r y => by
    simp only [View.readAt_apply, Memref.IsWhole.read_unread]; exact X.2 _
  refine ⟨?_, fun g E K => ?run⟩
  case run =>
    unfold k0_t1_body
    simp only [k0_part1_eq_skeleton, k0_part2_eq_skeleton]
    iintro ⟨H2, H11, H12, Hk⟩
    sl_exec (disch := (first | with_reducible refine chk1_of_lt _ _ _ ?_ | with_reducible refine chk2_of_lt _ _ _ ?_ | with_reducible refine chk3_of_lt _ _ _ ?_ | with_reducible refine chk4_of_lt _ _ _ ?_ | with_reducible refine chk5_of_lt _ _ _ ?_ | with_reducible refine chk6_of_lt _ _ _ ?_ | with_reducible refine chk7_of_lt _ _ _ ?_); exact rd _ _)
    sl_step
    iapply Hk
    isplitl [H2]; · iexact H2
    isplitl [H11]; · iexact H11
    iexact H12

/-- What the gather scratch holds before trip `n`. -/
noncomputable def gAt (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) : ℕ → Buf (Elt F) (arg12.view.loc (c : Thread nD τ))
  | 0 => g0
  | n + 1 => if h : n < k0_t1_loop.trips then arg12.view.writes (Elt F) (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 n) (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz ⟨n, h⟩).1 else gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 n

theorem gAt_succ (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) (k : Fin k0_t1_loop.trips) :
    gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 (k.val + 1) = arg12.view.writes (Elt F) (gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 k.val) (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz k).1 := by
  rw [gAt.eq_2]; exact dif_pos k.isLt

set_option warn.classDefReducibility false in
/-- The gather loop's invariant: the targets and the logits unchanged, the gather scratch as the trips so far left it. -/
@[sl_loop] def loopInv (c : Dev nD) (E : Set ℕ) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (k0_h2 : k0_cond2 i = 1#1) (v3794 : FVec F S128x1 .f32) (c0_i32_1302 : BitVec 32) (X : Words F) (fz : Buf (Elt F) (arg11.view.loc (c : Thread nD τ))) (g0 : Buf (Elt F) (arg12.view.loc (c : Thread nD τ))) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 where
  inv k _ := iprop((arg2.view.loc (c : Thread nD τ) ↦[arg2.view.set]{fullShare} harg2.unread X.1) ∗ (arg11.view.loc (c : Thread nD τ) ↦[arg11.view.set]{fullShare} fz) ∗ (arg12.view.loc (c : Thread nD τ) ↦[arg12.view.set]{fullShare} gAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz g0 k))
  step k acc := by
    iintro ⟨H2, H11, H12⟩
    iapply (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v3794 c0_i32_1302 X fz k).2
    isplitl [H2]; · iexact H2
    isplitl [H11]; · iexact H11
    isplitl [H12]; · iexact H12
    iintro ⟨H2, H11, H12⟩
    rw [gAt_succ]
    isplitl [H2]; · iexact H2
    isplitl [H11]; · iexact H11
    iexact H12

end Cert.Kernel.Gen

end
-- ==== Proof.P.RunC.lean ====
module

public import proofs.«01_k».proof.Proof.Gen.Kernel.Frame
public import proofs.«01_k».proof.Proof.Gen.Kernel.Loops
public import proofs.«01_k».proof.Proof.P.Loop

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 12000000 in
/-- The body's run at the last grid point. The witness lists the pieces each written buffer ends with. -/
noncomputable def runC (c : Dev nD) (i : grid0.Coords) (arg1 : Memref sig .tc .smem S250x32 .f32) (harg1 : arg1.IsWhole) (arg2 : Memref sig .tc .smem S128x7 .i32) (harg2 : arg2.IsWhole) (arg3 : Memref sig .tc .vmem S128x4096 .fp8e4m3) (harg3 : arg3.IsWhole) (arg4 : Memref sig .tc .vmem S128x1 .f32) (harg4 : arg4.IsWhole) (arg5 : Memref sig .tc .vmem S128x7 .i32) (harg5 : arg5.IsWhole) (arg6 : Memref sig .tc .vmem S1280x4096 .fp8e4m3) (harg6 : arg6.IsWhole) (arg7 : Memref sig .tc .vmem S128x1 .f32) (harg7 : arg7.IsWhole) (arg8 : Memref sig .tc .vmem S128x1 .f32) (harg8 : arg8.IsWhole) (arg9 : Memref sig .tc .vmem S128x7 .f32) (harg9 : arg9.IsWhole) (arg10 : Memref sig .tc .vmem S64x4096 .i32) (harg10 : arg10.IsWhole) (arg11 : Memref sig .tc .vmem S32000x128 .f32) (harg11 : arg11.IsWhole) (arg12 : Memref sig .tc .vmem S896x128 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (hc0 : ¬condFirst i) (hc1 : condLast i)
    (x0 : Vec F S250x32 .f32) (x1 : Words F) (x2 : Vec F S128x4096 .fp8e4m3) (x3 : Vec F S128x1 .f32) (x4 : Vec F S128x7 .i32) (x5 : Vec F S1280x4096 .fp8e4m3) (xb : Vec F S64x4096 .i32) (xz : Vec F S32000x128 .f32) (xg : Vec F S896x128 .f32) (xm : Vec F S128x256 .f32) (xs : Vec F S128x256 .f32) (xa : Vec F S128x256 .f32) (xv : Vec F S128x256 .f32) :
    Σ' (Ly6 : List (View.Piece (Elt F) S128x1 .f32)), Σ' (Ly7 : List (View.Piece (Elt F) S128x1 .f32)), Σ' (Ly8 : List (View.Piece (Elt F) S128x7 .f32)), Σ' (Lxz : List (View.Piece (Elt F) S32000x128 .f32)), Σ' (Lxm : List (View.Piece (Elt F) S128x256 .f32)), Σ' (Lxs : List (View.Piece (Elt F) S128x256 .f32)), Σ' (Lxa : List (View.Piece (Elt F) S128x256 .f32)), { Lxv : List (View.Piece (Elt F) S128x256 .f32) //
      ∀ (y6 : Vec F S128x1 .f32) (y7 : Vec F S128x1 .f32) (y8 : Vec F S128x7 .f32) (E : Set ℕ) (K : PUnit → sProp 𝕄),
        iprop(owns (c : Thread nD τ) arg1 fullShare x0 ∗ owns (c : Thread nD τ) arg2 fullShare x1.1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare xb ∗ owns (c : Thread nD τ) arg11 fullShare xz ∗ owns (c : Thread nD τ) arg12 fullShare xg ∗ owns (c : Thread nD τ) arg13 fullShare xm ∗ owns (c : Thread nD τ) arg14 fullShare xs ∗ owns (c : Thread nD τ) arg15 fullShare xa ∗ owns (c : Thread nD τ) arg16 fullShare xv
            ∗ (iprop(owns (c : Thread nD τ) arg1 fullShare x0 ∗ owns (c : Thread nD τ) arg2 fullShare x1.1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f Ly6) ∗ (∃ f, arg8.view.loc (c : Thread nD τ) ↦[arg8.view.set]{fullShare} arg8.view.writes (Elt F) f Ly7) ∗ (∃ f, arg9.view.loc (c : Thread nD τ) ↦[arg9.view.set]{fullShare} arg9.view.writes (Elt F) f Ly8) ∗ owns (c : Thread nD τ) arg10 fullShare xb ∗ (arg11.view.loc (c : Thread nD τ) ↦[arg11.view.set]{fullShare} arg11.view.writes (Elt F) (harg11.unread xz) Lxz) ∗ (∃ f, arg12.view.loc (c : Thread nD τ) ↦[arg12.view.set]{fullShare} f) ∗ (∃ f, arg13.view.loc (c : Thread nD τ) ↦[arg13.view.set]{fullShare} arg13.view.writes (Elt F) f Lxm) ∗ (∃ f, arg14.view.loc (c : Thread nD τ) ↦[arg14.view.set]{fullShare} arg14.view.writes (Elt F) f Lxs) ∗ (∃ f, arg15.view.loc (c : Thread nD τ) ↦[arg15.view.set]{fullShare} arg15.view.writes (Elt F) f Lxa) ∗ (∃ f, arg16.view.loc (c : Thread nD τ) ↦[arg16.view.set]{fullShare} arg16.view.writes (Elt F) f Lxv)) -∗ K ⟨⟩))
          ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun y6 y7 y8 E K => ?run⟩
  case run =>
    simp only [cc0_lm_head_entropy_eq_skeleton]; unfold cc0_lm_head_entropy_skel
    simp only [k0_part92_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; isplitr; · ipureintro; exact harg10.read_unread _
      iexact H9
    isplitl [H10]
    · iexact H10
    isplitl [H11]
    · iexists _; iexact H11
    isplitl [H12]
    · iexists _; iexact H12
    isplitl [H13]
    · iexists _; iexact H13
    isplitl [H14]
    · iexists _; iexact H14
    iexists _; iexact H15

end Cert.Kernel.Gen

end
-- ==== Proof.P.Points.lean ====
module

public import proofs.«01_k».proof.Proof.P.RunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The current staging memref of window 0 at point `t`, and its wholeness. -/
abbrev ms0 (t : Fin cfg0.N) : Memref sig .tc .smem S250x32 .f32 := win0_0.stage (cfg0.slots t 0)
abbrev hs0 (t : Fin cfg0.N) : (ms0 t).IsWhole := hstage0_0 ((cfg0.slots t 0).cast nbuf0_0)
/-- The current staging memref of window 1 at point `t`, and its wholeness. -/
abbrev ms1 (t : Fin cfg0.N) : Memref sig .tc .smem S128x7 .i32 := win0_1.stage (cfg0.slots t 1)
abbrev hs1 (t : Fin cfg0.N) : (ms1 t).IsWhole := hstage0_1 ((cfg0.slots t 1).cast nbuf0_1)
/-- The current staging memref of window 2 at point `t`, and its wholeness. -/
abbrev ms2 (t : Fin cfg0.N) : Memref sig .tc .vmem S128x4096 .fp8e4m3 := win0_2.stage (cfg0.slots t 2)
abbrev hs2 (t : Fin cfg0.N) : (ms2 t).IsWhole := hstage0_2 ((cfg0.slots t 2).cast nbuf0_2)
/-- The current staging memref of window 3 at point `t`, and its wholeness. -/
abbrev ms3 (t : Fin cfg0.N) : Memref sig .tc .vmem S128x1 .f32 := win0_3.stage (cfg0.slots t 3)
abbrev hs3 (t : Fin cfg0.N) : (ms3 t).IsWhole := hstage0_3 ((cfg0.slots t 3).cast nbuf0_3)
/-- The current staging memref of window 4 at point `t`, and its wholeness. -/
abbrev ms4 (t : Fin cfg0.N) : Memref sig .tc .vmem S128x7 .i32 := win0_4.stage (cfg0.slots t 4)
abbrev hs4 (t : Fin cfg0.N) : (ms4 t).IsWhole := hstage0_4 ((cfg0.slots t 4).cast nbuf0_4)
/-- The current staging memref of window 5 at point `t`, and its wholeness. -/
abbrev ms5 (t : Fin cfg0.N) : Memref sig .tc .vmem S1280x4096 .fp8e4m3 := win0_5.stage (cfg0.slots t 5)
abbrev hs5 (t : Fin cfg0.N) : (ms5 t).IsWhole := hstage0_5 ((cfg0.slots t 5).cast nbuf0_5)
/-- The current staging memref of window 6 at point `t`, and its wholeness. -/
abbrev ms6 (t : Fin cfg0.N) : Memref sig .tc .vmem S128x1 .f32 := win0_6.stage (cfg0.slots t 6)
abbrev hs6 (t : Fin cfg0.N) : (ms6 t).IsWhole := hstage0_6 ((cfg0.slots t 6).cast nbuf0_6)
/-- The current staging memref of window 7 at point `t`, and its wholeness. -/
abbrev ms7 (t : Fin cfg0.N) : Memref sig .tc .vmem S128x1 .f32 := win0_7.stage (cfg0.slots t 7)
abbrev hs7 (t : Fin cfg0.N) : (ms7 t).IsWhole := hstage0_7 ((cfg0.slots t 7).cast nbuf0_7)
/-- The current staging memref of window 8 at point `t`, and its wholeness. -/
abbrev ms8 (t : Fin cfg0.N) : Memref sig .tc .vmem S128x7 .f32 := win0_8.stage (cfg0.slots t 8)
abbrev hs8 (t : Fin cfg0.N) : (ms8 t).IsWhole := hstage0_8 ((cfg0.slots t 8).cast nbuf0_8)
/-- Scratch operand 0, a whole buffer of the kernel's own. -/
abbrev sc9 : Memref sig .tc .vmem S64x4096 .i32 := Memref.whole cc0_scratch0
/-- Scratch operand 1, a whole buffer of the kernel's own. -/
abbrev sc10 : Memref sig .tc .vmem S32000x128 .f32 := Memref.whole cc0_scratch1
/-- Scratch operand 2, a whole buffer of the kernel's own. -/
abbrev sc11 : Memref sig .tc .vmem S896x128 .f32 := Memref.whole cc0_scratch2
/-- Scratch operand 3, a whole buffer of the kernel's own. -/
abbrev sc12 : Memref sig .tc .vmem S128x256 .f32 := Memref.whole cc0_scratch3
/-- Scratch operand 4, a whole buffer of the kernel's own. -/
abbrev sc13 : Memref sig .tc .vmem S128x256 .f32 := Memref.whole cc0_scratch4
/-- Scratch operand 5, a whole buffer of the kernel's own. -/
abbrev sc14 : Memref sig .tc .vmem S128x256 .f32 := Memref.whole cc0_scratch5
/-- Scratch operand 6, a whole buffer of the kernel's own. -/
abbrev sc15 : Memref sig .tc .vmem S128x256 .f32 := Memref.whole cc0_scratch6

/-- The launch's invariant, scratch buffer by scratch buffer. -/
theorem PhiA_eq (c : Dev nD) :
    (Pipeline.ΦA spec0 c : sProp 𝕄) = iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d)) ∗ (∃ r, prngReg c r)) := by
  unfold Pipeline.ΦA; rw [scopedRest0_eq]; simp only [sc9, sc10, sc11, sc12, sc13, sc14, sc15, owns_whole]; try rfl

/-- The first branch is taken at the first point only. -/
theorem condFirst_iff : ∀ t : Fin cfg0.N, condFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [condFirst, e0]
    word_cmp
   : ∀ t : Fin grid0.N, condFirst (grid0.coords t) ↔ t.val % 25 = 0)

/-- The second branch is taken at the last point only. -/
theorem condLast_iff : ∀ t : Fin cfg0.N, condLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [condLast, k0_cond2, e0]
    word_cmp
   : ∀ t : Fin grid0.N, condLast (grid0.coords t) ↔ t.val % 25 = 24)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel.Gen

end
-- ==== Proof.P.Frame.lean ====
module

public import proofs.«01_k».proof.Proof.P.Points

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The three output windows: nothing here reads what the kernel leaves in them. -/
def forgets : Fin 9 → Bool := fun w => decide (6 ≤ w.val)

/-- The proof data on core `c`: the arrays as the region finds them, the inputs' blocks left in place, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨w + 6, h⟩ => Pipeline.Dat.unnamed (cfg := cfg0) ⟨w + 6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [show cfg0.idle 4 (grid0.coords t) = false from rfl], after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [show cfg0.idle 5 (grid0.coords t) = false from rfl], after0_5]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms6 t) fullShare d)
    ∗ (∃ d, owns (c : Thread nD τ) (ms7 t) fullShare d)
    ∗ (∃ d, owns (c : Thread nD τ) (ms8 t) fullShare d))

/-- The targets as every point of the grid sees them are in range. -/
def InRange : Prop := ∀ (c : Dev nD) (t : Fin cfg0.N) (y : S128x7.Idx), (show BitVec 32 from iblk m c 1 t y).toNat < 32000

/-- The body at any point, from the invariant to the invariant. -/
theorem sound_body (hw : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  have hN : t.val < 25 := lt_of_lt_of_eq t.isLt (show cfg0.N = 25 from N_0)
  iintro ⟨⟨⟨⟨%x9, S9⟩, ⟨%x10, S10⟩, ⟨%x11, S11⟩, ⟨%x12, S12⟩, ⟨%x13, S13⟩, ⟨%x14, S14⟩, ⟨%x15, S15⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 25 = 0
  · iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) ((condFirst_iff t).mpr h0) (fun h => absurd ((condLast_iff t).mp h) (by omega)) (iblk m c 0 t) (iblk m c 1 t) (iblk m c 2 t) (iblk m c 3 t) (iblk m c 4 t) (iblk m c 5 t) x10).2.2.2.2.2.2 _ _ _ x9 x11 x12 x13 x14 x15 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S9]; · iexact S9
    isplitl [S10]; · iexact S10
    isplitl [S11]; · iexact S11
    isplitl [S12]; · iexact S12
    isplitl [S13]; · iexact S13
    isplitl [S14]; · iexact S14
    isplitl [S15]; · iexact S15
    iintro ⟨H0, H1, H2, H3, H4, H5, H6, H7, H8, ⟨%e9, S9⟩, S10, S11, ⟨%e12, S12⟩, ⟨%e13, S13⟩, ⟨%e14, S14⟩, ⟨%e15, S15⟩⟩
    isplitl [S9 S10 S11 S12 S13 S14 S15 Hg]
    · isplitr [Hg]
      · isplitl [S9]
        · iexists _; unfold owns; iexists _; isplitr; swap; · iexact S9
          ipureintro; rfl
        isplitl [S10]
        · iexists _; unfold owns; iexists _; isplitr; swap; · iexact S10
          ipureintro; rfl
        isplitl [S11]
        · iexists _; iexact S11
        isplitl [S12]
        · iexists _; unfold owns; iexists _; isplitr; swap; · iexact S12
          ipureintro; rfl
        isplitl [S13]
        · iexists _; unfold owns; iexists _; isplitr; swap; · iexact S13
          ipureintro; rfl
        isplitl [S14]
        · iexists _; unfold owns; iexists _; isplitr; swap; · iexact S14
          ipureintro; rfl
        iexists _; unfold owns; iexists _; isplitr; swap; · iexact S15
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; iexact H6
    isplitl [H7]
    · iexists _; iexact H7
    iexists _; iexact H8
  · by_cases h1 : t.val % 25 = 24
    rotate_left
    · iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) x9 x10 x12 x13 x14 x15).2.2.2.2.2 _ _ _ x11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S9]; · iexact S9
      isplitl [S10]; · iexact S10
      isplitl [S11]; · iexact S11
      isplitl [S12]; · iexact S12
      isplitl [S13]; · iexact S13
      isplitl [S14]; · iexact S14
      isplitl [S15]; · iexact S15
      iintro ⟨H0, H1, H2, H3, H4, H5, H6, H7, H8, S9, S10, S11, ⟨%e12, S12⟩, ⟨%e13, S13⟩, ⟨%e14, S14⟩, ⟨%e15, S15⟩⟩
      isplitl [S9 S10 S11 S12 S13 S14 S15 Hg]
      · isplitr [Hg]
        · isplitl [S9]
          · iexists _; iexact S9
          isplitl [S10]
          · iexists _; unfold owns; iexists _; isplitr; swap; · iexact S10
            ipureintro; rfl
          isplitl [S11]
          · iexists _; iexact S11
          isplitl [S12]
          · iexists _; unfold owns; iexists _; isplitr; swap; · iexact S12
            ipureintro; rfl
          isplitl [S13]
          · iexists _; unfold owns; iexists _; isplitr; swap; · iexact S13
            ipureintro; rfl
          isplitl [S14]
          · iexists _; unfold owns; iexists _; isplitr; swap; · iexact S14
            ipureintro; rfl
          iexists _; unfold owns; iexists _; isplitr; swap; · iexact S15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; iexact H6
      isplitl [H7]
      · iexists _; iexact H7
      iexists _; iexact H8
    · iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (fun h => h0 ((condFirst_iff t).mp h)) ((condLast_iff t).mpr h1) (iblk m c 0 t) ⟨iblk m c 1 t, hw c t⟩ (iblk m c 2 t) (iblk m c 3 t) (iblk m c 4 t) (iblk m c 5 t) x9 x10 x11 x12 x13 x14 x15).2.2.2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S9]; · iexact S9
      isplitl [S10]; · iexact S10
      isplitl [S11]; · iexact S11
      isplitl [S12]; · iexact S12
      isplitl [S13]; · iexact S13
      isplitl [S14]; · iexact S14
      isplitl [S15]; · iexact S15
      iintro ⟨H0, H1, H2, H3, H4, H5, ⟨%e6, H6⟩, ⟨%e7, H7⟩, ⟨%e8, H8⟩, S9, S10, ⟨%e11, S11⟩, ⟨%e12, S12⟩, ⟨%e13, S13⟩, ⟨%e14, S14⟩, ⟨%e15, S15⟩⟩
      isplitl [S9 S10 S11 S12 S13 S14 S15 Hg]
      · isplitr [Hg]
        · isplitl [S9]
          · iexists _; iexact S9
          isplitl [S10]
          · iexists _; unfold owns; iexists _; isplitr; swap; · iexact S10
            ipureintro; rfl
          isplitl [S11]
          · iexists _; unfold owns; iexists _; isplitr; swap; · iexact S11
            ipureintro; rfl
          isplitl [S12]
          · iexists _; unfold owns; iexists _; isplitr; swap; · iexact S12
            ipureintro; rfl
          isplitl [S13]
          · iexists _; unfold owns; iexists _; isplitr; swap; · iexact S13
            ipureintro; rfl
          isplitl [S14]
          · iexists _; unfold owns; iexists _; isplitr; swap; · iexact S14
            ipureintro; rfl
          iexists _; unfold owns; iexists _; isplitr; swap; · iexact S15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; unfold owns; iexists _; isplitr; swap; · iexact H6
        ipureintro; rfl
      isplitl [H7]
      · iexists _; unfold owns; iexists _; isplitr; swap; · iexact H7
        ipureintro; rfl
      iexists _; unfold owns; iexists _; isplitr; swap; · iexact H8
      ipureintro; rfl

/-- The library's body obligation with the outputs forgotten. -/
theorem body_obligation (hw : InRange m) (c : Dev nD) :
    BodyObligation (dats (F := F) m 0 c) (defs₀ (F := F)) Variants.none () Set.univ forgets := fun t => by
  rw [bigSep_W0, bigSep_W0, defs₀_row]
  exact triple_restated (sound_body m hw c t) rfl .rfl fun _ => .rfl

/-- The buffers the lines after the region write. -/
def tailWrites : Finset (Ref sig .tc) := {main_v8, main_v9, main_v10}

/-- Every write of the lines after the region is in `tailWrites`. -/
theorem tail_writes : ∀ ops ∈ [hostOps1 (F := F)], ∀ op ∈ ops, ∀ b : Ref sig .tc, Proc.devRef .tc b ∈ op.writes → b ∈ tailWrites := by
  intro ops hops op hop b hb
  obtain rfl := List.mem_singleton.mp hops
  simp only [hostOps1, List.mem_cons, List.mem_nil_iff, List.not_mem_nil, or_false] at hop
  rcases hop with rfl | rfl | rfl <;>
    · rw [StableHlo.reshape_writes, Finset.mem_singleton] at hb
      obtain rfl := Proc.devRef_injective .tc hb
      decide

set_option backward.isDefEq.respectTransparency.types false in
set_option maxHeartbeats 800000 in
/-- The launch: every run ends with the arguments unchanged and every semaphore counter at zero. -/
theorem frame_quiescent (hw : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget_shared cfgs (dats m) (0 : Fin 1) launch₀0 defs₀ Variants.none forgets tailWrites m ρ main (Q' := _)
    (hbody := fun c => (body_obligation m hw c).loose) (hq := fun _ _ _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)
    (hQ' := fun r h => ⟨fun c => ⟨((h.1 c).2 main_arg0 (by decide)).trans (V_main_arg0 m c), ((h.1 c).2 main_arg1 (by decide)).trans (V_main_arg1 m c), ((h.1 c).2 main_arg2 (by decide)).trans (V_main_arg2 m c), ((h.1 c).2 main_arg3 (by decide)).trans (V_main_arg3 m c), ((h.1 c).2 main_arg4 (by decide)).trans (V_main_arg4 m c)⟩, h.2⟩)

end Cert.Kernel.Gen

end
-- ==== Proof.P.Range.lean ====
module

public import proofs.«01_k».proof.Proof.P.Frame

@[expose] public section

set_option maxRecDepth 16384

noncomputable section

namespace Cert.Kernel.Gen

open Idealize.ShloMosaic Idealize.ShloMosaic.TcCoe Idealize.ShloMosaic.Tactic Idealize.SL.Sem

variable {F : FTy → Type} [BitOps F]
variable (m : (ℓ : Loc nD τ sig) → Buf (Elt F) ℓ)

/-- The targets as the region finds them: the argument, reshaped. -/
theorem V_targets (c : Dev nD) : V m c main_v4 = shapeCast S128x7 (m ((c : Thread nD τ).loc main_arg4)) shapeCasts_S1x128x7_S128x7 := by
  show StableHlo.after (List.flatten [hostOps0]) (fun b => m (c, b)) (Proc.devRef .tc main_v4) = _
  simp only [hostOps0, List.flatten_cons, List.flatten_nil, List.append_nil, List.cons_append, List.nil_append]
  after_results_simp <;> rfl

/-- Targets below 32000 in the argument are below 32000 at every grid point. -/
theorem inRange_of (h : ∀ (c : Dev nD) (z : S1x128x7.Idx), (show BitVec 32 from m ((c : Thread nD τ).loc main_arg4) z).toNat < 32000) : InRange m := by
  intro c t y
  have e : ∃ z : S128x7.Idx, iblk m c 1 t y = V m c main_v4 z := ⟨_, rfl⟩
  obtain ⟨z, hz⟩ := e
  rw [hz, V_targets]
  exact h c _

end Cert.Kernel.Gen

end
-- ==== Proof.Claims.lean ====
module

public import proofs.«01_k».proof.Defs
public import proofs.«01_k».proof.Proof.Pre
public import proofs.«01_k».proof.Proof.PreDomain
public import proofs.«01_k».proof.Proof.Alg
public import proofs.«01_k».proof.Proof.P.Range
public import proofs.«01_k».proof.Proof.PI.Range
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof.Claims

/-- The kernel runs, keeps its arguments and ends quiescent. -/
theorem frame_p : Cert.quiescent_Kernel := fun m ρ h =>
  Cert.Kernel.Gen.frame_quiescent m ρ (Cert.Kernel.Gen.inRange_of m fun c z => Cert.Pre.targets_lt _ _ _ _ _ (h c) z)

/-- The idealized kernel runs, keeps its arguments and ends quiescent. -/
theorem frame_pi : Cert.quiescent_KernelIdeal := fun m ρ h =>
  Cert.KernelIdeal.Gen.frame_quiescent m ρ (Cert.KernelIdeal.Gen.inRange_of m fun c z => Cert.Pre.targets_lt _ _ _ _ _ (h c) z)

/-- The idealized kernel runs on the value claim's domain, keeps its arguments and ends quiescent. -/
theorem frame_pi_domain : Cert.quiescent_KernelIdeal_pre_in_domain := fun m ρ h =>
  Cert.KernelIdeal.Gen.frame_quiescent m ρ (Cert.KernelIdeal.Gen.inRange_of m fun c z => (Cert.Pre.domain _ _ _ _ _ (h c)).2.2.2.2 z)

/-- The reference runs, keeps its arguments and ends quiescent. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference runs on the value claim's domain, keeps its arguments and ends quiescent. -/
theorem frame_ri_domain : Cert.quiescent_ReferenceIdeal_pre_in_domain := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The rewrites of the idealization, each by its rule: the word buffer re-typed, and the pairs of rows in a word at the
    four shapes the kernel packs and reads. -/
theorem preserves : Cert.preserves_Kernel_KernelIdeal :=
  open Cert.KernelIdeal IdealRules.bf16_pair in
  ⟨bufferStatement S64x2x4096 S64x1x4096, statement S128x4096 S64x4096, statement S64x2x4096 S64x1x4096,
    statement S64x2x256 S64x1x256, statement S128x256 S64x256⟩

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_targets_in_range
public import proofs.«01_k».proof.Proof.Gen.Pre_in_domain
public import proofs.«01_k».proof.Proof.Claims

@[expose] public section

noncomputable section

namespace Cert.Proof

open Idealize.ShloMosaic Idealize.SL.Sem Cert.Kernel

/-- The frames of the kernel, of its idealization and of the reference, the idealization's rewrites, and the equality of
    the idealized kernel's results with the reference's. -/
theorem claim : Cert.Claim := ⟨Cert.Kernel.Gen.facts, Cert.KernelIdeal.Gen.facts, Cert.ReferenceIdeal.Gen.facts, Cert.Pre_targets_in_range.Gen.facts,
  Cert.Pre_in_domain.Gen.facts, Claims.frame_p, Claims.frame_pi, Claims.frame_pi_domain, Claims.frame_ri, Claims.frame_ri_domain, Claims.preserves,
  Alg.algebraic⟩

end Cert.Proof

end
